-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x128x64 : Shape := ⟨3, ![16, 128, 64]⟩
abbrev S16x1024x128 : Shape := ⟨3, ![16, 1024, 128]⟩
abbrev S128x64 : Shape := ⟨2, ![128, 64]⟩
abbrev S512x128 : Shape := ⟨2, ![512, 128]⟩
abbrev S_ : Shape := ⟨0, ![]⟩
abbrev S1x128x64 : Shape := ⟨3, ![1, 128, 64]⟩
abbrev S16 : Shape := ⟨1, ![16]⟩
abbrev S1x16 : Shape := ⟨2, ![1, 16]⟩
abbrev S1x512x128 : Shape := ⟨3, ![1, 512, 128]⟩
abbrev S16x7168x128 : Shape := ⟨3, ![16, 7168, 128]⟩
abbrev S1x1024x128 : Shape := ⟨3, ![1, 1024, 128]⟩
abbrev S1024x128 : Shape := ⟨2, ![1024, 128]⟩
abbrev S1024x125 : Shape := ⟨2, ![1024, 125]⟩
abbrev S1024x3 : Shape := ⟨2, ![1024, 3]⟩
abbrev S1024x126 : Shape := ⟨2, ![1024, 126]⟩
abbrev S1024x2 : Shape := ⟨2, ![1024, 2]⟩
abbrev S1024x127 : Shape := ⟨2, ![1024, 127]⟩
abbrev S1024x1 : Shape := ⟨2, ![1024, 1]⟩

abbrev nBuf : Table → Nat
  | .hbm => 3
  | .local .tc .vmem => 4
  | .local .scVector .vmem => 2
  | _ => 0

abbrev bufTy : (tb : Table) → Fin (nBuf tb) → BufTy
  | .hbm, ⟨0, _⟩ => ⟨S16x128x64, .i32⟩
  | .hbm, ⟨1, _⟩ => ⟨S16x1024x128, .f32⟩
  | .hbm, ⟨2, _⟩ => ⟨S16x7168x128, .f32⟩
  | .local .tc .vmem, ⟨0, _⟩ => ⟨S1x1024x128, .f32⟩
  | .local .tc .vmem, ⟨1, _⟩ => ⟨S1x1024x128, .f32⟩
  | .local .tc .vmem, ⟨2, _⟩ => ⟨S1x1024x128, .f32⟩
  | .local .tc .vmem, ⟨3, _⟩ => ⟨S1x1024x128, .f32⟩
  | .local .scVector .vmem, ⟨0, _⟩ => ⟨S128x64, .i32⟩
  | .local .scVector .vmem, ⟨1, _⟩ => ⟨S512x128, .f32⟩
  | _, _ => ⟨S16x128x64, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => true
  | ⟨3, _⟩ => true
  | ⟨4, _⟩ => true
  | ⟨5, _⟩ => true
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_arg0_scv : Ref sig .scVector := ⟨.hbm, 0, rfl⟩
abbrev main_v0_scv : Ref sig .scVector := ⟨.hbm, 1, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc0_scratch0 : Ref sig .scVector := ⟨.vmem, 0, rfl⟩
abbrev cc0_scratch1 : Ref sig .scVector := ⟨.vmem, 1, rfl⟩
abbrev cc1_sem0_0 : DmaSem sig := 2
abbrev cc1_sem0_1 : DmaSem sig := 3
abbrev cc1_sem1_0 : DmaSem sig := 4
abbrev cc1_sem1_1 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c0_i32_11 : BitVec 32 := 0#32
  let c0_i32_12 : BitVec 32 := 0#32
  ![v18.toNat, 0, 0]
@[reducible] def k0_t1_loop : Scf.Loop 32 :=
  let c0_i32_16 : BitVec 32 := 0#32
  let c512_i32_17 : BitVec 32 := 512#32
  let v35 : BitVec 32 := Scalar.addi c0_i32_16 c512_i32_17
  let c1_i32_18 : BitVec 32 := 1#32
  ⟨c0_i32_16, v35, c1_i32_18⟩
def k0_off2 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v45 : Index := Scalar.indexCast arg7
  let c0 : Index := 0#32
  ![v45.toNat, 0]
def k0_off3 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v47 : Index := Scalar.indexCast arg7
  let c16 : Index := 16#32
  ![v47.toNat, 16]
def k0_off4 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v49 : Index := Scalar.indexCast arg7
  let c32 : Index := 32#32
  ![v49.toNat, 32]
def k0_off5 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v51 : Index := Scalar.indexCast arg7
  let c48 : Index := 48#32
  ![v51.toNat, 48]
def k0_off6 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v53 : Index := Scalar.indexCast arg7
  let c64 : Index := 64#32
  ![v53.toNat, 64]
def k0_off7 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v55 : Index := Scalar.indexCast arg7
  let c80 : Index := 80#32
  ![v55.toNat, 80]
def k0_off8 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v57 : Index := Scalar.indexCast arg7
  let c96 : Index := 96#32
  ![v57.toNat, 96]
def k0_off9 (k0_t1 : Fin k0_t1_loop.trips) : Fin 2 → Nat :=
  let c0_i32_16 : BitVec 32 := 0#32
  let c1_i32_18 : BitVec 32 := 1#32
  let arg7 : BitVec 32 := Scf.iv c0_i32_16 c1_i32_18 k0_t1
  let v59 : Index := Scalar.indexCast arg7
  let c112 : Index := 112#32
  ![v59.toNat, 112]
@[reducible] def k0_t2_loop : Scf.Loop 32 :=
  let c0_i32_26 : BitVec 32 := 0#32
  let c512_i32_27 : BitVec 32 := 512#32
  let v43 : BitVec 32 := Scalar.addi c0_i32_26 c512_i32_27
  let c1_i32_28 : BitVec 32 := 1#32
  ⟨c0_i32_26, v43, c1_i32_28⟩

def k0_chk1 (v66 : IVec S16 32) (v67 : IVec S16 32) : Prop :=
  (∀ a x, ((![v66, v67] : Fin 2 → IVec S16 32) a x).toNat < S128x64.size a)
theorem k0_idx1_inb : ∀ (v66 : IVec S16 32) (v67 : IVec S16 32) (k0_hw1 : k0_chk1 v66 v67), ∀ a x, ((![v66, v67] : Fin 2 → IVec S16 32) a x).toNat < S128x64.size a := fun v66 v67 k0_hw1 => k0_hw1

def k0_chk2 (v66 : IVec S16 32) (v79 : IVec S16 32) : Prop :=
  (∀ a x, ((![v79, v66] : Fin 2 → IVec S16 32) a x).toNat < S512x128.size a)
theorem k0_idx2_inb : ∀ (v66 : IVec S16 32) (v79 : IVec S16 32) (k0_hw2 : k0_chk2 v66 v79), ∀ a x, ((![v79, v66] : Fin 2 → IVec S16 32) a x).toNat < S512x128.size a := fun v66 v79 k0_hw2 => k0_hw2
def k0_off10 (i : grid0.Coords) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c2_i32_0 : BitVec 32 := 2#32
  let c0_i32_2 : BitVec 32 := 0#32
  let v8 : BitVec 1 := Scalar.cmpi .sgt c2_i32_0 c0_i32_2
  let v9 : BitVec 32 := Scalar.extui v8
  let c0_i32_3 : BitVec 32 := 0#32
  let v10 : BitVec 1 := Scalar.cmpi .slt c2_i32_0 c0_i32_3
  let v11 : BitVec 32 := Scalar.extui v10
  let v12 : BitVec 32 := Scalar.subi v9 v11
  let v13 : BitVec 1 := Scalar.cmpi .ne v7 v12
  let v14 : BitVec 32 := Scalar.remsi v1 c2_i32_0
  let c0_i32_4 : BitVec 32 := 0#32
  let v15 : BitVec 1 := Scalar.cmpi .ne v14 c0_i32_4
  let v16 : BitVec 1 := Scalar.andi v13 v15
  let v2 : BitVec 32 := Scalar.divsi v1 c2_i32_0
  let c1_i32 : BitVec 32 := 1#32
  let v17 : BitVec 32 := Scalar.subi v2 c1_i32
  let v18 : BitVec 32 := Scalar.select v16 v17 v2
  let c2_i32_5 : BitVec 32 := 2#32
  let c0_i32_6 : BitVec 32 := 0#32
  let v19 : BitVec 1 := Scalar.cmpi .eq c2_i32_5 c0_i32_6
  let c1_i32_7 : BitVec 32 := 1#32
  let v20 : BitVec 32 := Scalar.select v19 c1_i32_7 c2_i32_5
  let v21 : BitVec 32 := Scalar.remsi v1 v20
  let c0_i32_9 : BitVec 32 := 0#32
  let v23 : BitVec 1 := Scalar.cmpi .slt v21 c0_i32_9
  let c0_i32_10 : BitVec 32 := 0#32
  let v24 : BitVec 1 := Scalar.cmpi .slt v20 c0_i32_10
  let v25 : BitVec 1 := Scalar.xori v23 v24
  let c0_i32_8 : BitVec 32 := 0#32
  let v22 : BitVec 1 := Scalar.cmpi .ne v21 c0_i32_8
  let v26 : BitVec 1 := Scalar.andi v25 v22
  let v27 : BitVec 32 := Scalar.addi v21 v20
  let v28 : BitVec 32 := Scalar.select v26 v27 v21
  let c512_i32 : BitVec 32 := 512#32
  let v29 : BitVec 32 := Scalar.muli v28 c512_i32
  let c0_i32_30_r0 : BitVec 32 := 0#32
  ![v18.toNat, v29.toNat, 0]
abbrev grid1 : Pipeline.Grid := ⟨2, ![16, 7], ![false, false]⟩

def k1_cond1 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c0_i32_2 : BitVec 32 := 0#32
  let v4 : BitVec 1 := Scalar.cmpi .ne v3 c0_i32_2
  v4

def k1_cond2 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c1_i32 : BitVec 32 := 1#32
  let v5 : BitVec 32 := Scalar.subi v3 c1_i32
  let c0_i32_3 : BitVec 32 := 0#32
  let v6 : BitVec 1 := Scalar.cmpi .ne v5 c0_i32_3
  v6

def k1_cond3 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c1_i32 : BitVec 32 := 1#32
  let v5 : BitVec 32 := Scalar.subi v3 c1_i32
  let c1_i32_4 : BitVec 32 := 1#32
  let v7 : BitVec 32 := Scalar.subi v5 c1_i32_4
  let c0_i32_5 : BitVec 32 := 0#32
  let v8 : BitVec 1 := Scalar.cmpi .ne v7 c0_i32_5
  v8

def k1_cond4 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c1_i32 : BitVec 32 := 1#32
  let v5 : BitVec 32 := Scalar.subi v3 c1_i32
  let c1_i32_4 : BitVec 32 := 1#32
  let v7 : BitVec 32 := Scalar.subi v5 c1_i32_4
  let c1_i32_6 : BitVec 32 := 1#32
  let v9 : BitVec 32 := Scalar.subi v7 c1_i32_6
  let c0_i32_7 : BitVec 32 := 0#32
  let v10 : BitVec 1 := Scalar.cmpi .ne v9 c0_i32_7
  v10

def k1_cond5 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c1_i32 : BitVec 32 := 1#32
  let v5 : BitVec 32 := Scalar.subi v3 c1_i32
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c0_i32_9 : BitVec 32 := 0#32
  let v12 : BitVec 1 := Scalar.cmpi .ne v11 c0_i32_9
  v12

def k1_cond6 (i : grid1.Coords) : BitVec 1 :=
  let arg1 : BitVec 32 := BitVec.ofNat 32 (i 1).val
  let c0_i32 : BitVec 32 := 0#32
  let v2 : BitVec 32 := Scalar.maxsi arg1 c0_i32
  let c6_i32 : BitVec 32 := 6#32
  let v3 : BitVec 32 := Scalar.minsi v2 c6_i32
  let c1_i32 : BitVec 32 := 1#32
  let v5 : BitVec 32 := Scalar.subi v3 c1_i32
  let c1_i32_4 : BitVec 32 := 1#32
  let v7 : BitVec 32 := Scalar.subi v5 c1_i32_4
  let c1_i32_6 : BitVec 32 := 1#32
  let v9 : BitVec 32 := Scalar.subi v7 c1_i32_6
  let c1_i32_8 : BitVec 32 := 1#32
  let v11 : BitVec 32 := Scalar.subi v9 c1_i32_8
  let c1_i32_10 : BitVec 32 := 1#32
  let v13 : BitVec 32 := Scalar.subi v11 c1_i32_10
  let c0_i32_11 : BitVec 32 := 0#32
  let v14 : BitVec 1 := Scalar.cmpi .ne v13 c0_i32_11
  v14

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x128x64 : Shape := ⟨3, ![16, 128, 64]⟩
abbrev S_ : Shape := ⟨0, ![]⟩
abbrev S16x128x1024 : Shape := ⟨3, ![16, 128, 1024]⟩
abbrev S16 : Shape := ⟨1, ![16]⟩
abbrev S16x1x1 : Shape := ⟨3, ![16, 1, 1]⟩
abbrev S128 : Shape := ⟨1, ![128]⟩
abbrev S1x128x1 : Shape := ⟨3, ![1, 128, 1]⟩
abbrev S16x128x64x1 : Shape := ⟨4, ![16, 128, 64, 1]⟩
abbrev S16x128x64x3 : Shape := ⟨4, ![16, 128, 64, 3]⟩
abbrev S16x1024x128 : Shape := ⟨3, ![16, 1024, 128]⟩
abbrev S16x1024x3 : Shape := ⟨3, ![16, 1024, 3]⟩
abbrev S16x1024x125 : Shape := ⟨3, ![16, 1024, 125]⟩
abbrev S16x1024x2 : Shape := ⟨3, ![16, 1024, 2]⟩
abbrev S16x1024x126 : Shape := ⟨3, ![16, 1024, 126]⟩
abbrev S16x1024x1 : Shape := ⟨3, ![16, 1024, 1]⟩
abbrev S16x1024x127 : Shape := ⟨3, ![16, 1024, 127]⟩
abbrev S16x7168x128 : Shape := ⟨3, ![16, 7168, 128]⟩

abbrev nBuf : Space → Nat
  | .hbm => 85
  | .vmem => 0
  | .smem => 0
  | _ => 0

abbrev bufTy : (tb : Table) → Fin (tcTables nBuf tb) → BufTy
  | .hbm, ⟨0, _⟩ => ⟨S16x128x64, .i32⟩
  | .hbm, ⟨1, _⟩ => ⟨S_, .i32⟩
  | .hbm, ⟨2, _⟩ => ⟨S_, .i32⟩
  | .hbm, ⟨3, _⟩ => ⟨S_, .i32⟩
  | .hbm, ⟨4, _⟩ => ⟨S_, .i1⟩
  | .hbm, ⟨5, _⟩ => ⟨S_, .i32⟩
  | .hbm, ⟨6, _⟩ => ⟨S_, .i32⟩
  | .hbm, ⟨7, _⟩ => ⟨S16x128x64, .i32⟩
  | .hbm, ⟨8, _⟩ => ⟨S16x128x64, .i32⟩
  | .hbm, ⟨9, _⟩ => ⟨S_, .i32⟩
  | .hbm, ⟨10, _⟩ => ⟨S16x128x64, .i32⟩
  | .hbm, ⟨11, _⟩ => ⟨S16x128x64, .i1⟩
  | .hbm, ⟨12, _⟩ => ⟨S_, .i32⟩
  | .hbm, ⟨13, _⟩ => ⟨S16x128x64, .i32⟩
  | .hbm, ⟨14, _⟩ => ⟨S16x128x64, .i1⟩
  | .hbm, ⟨15, _⟩ => ⟨S_, .i32⟩
  | .hbm, ⟨16, _⟩ => ⟨S_, .i1⟩
  | .hbm, ⟨17, _⟩ => ⟨S16x128x64, .i1⟩
  | .hbm, ⟨18, _⟩ => ⟨S16x128x64, .i1⟩
  | .hbm, ⟨19, _⟩ => ⟨S16x128x64, .i1⟩
  | .hbm, ⟨20, _⟩ => ⟨S16x128x64, .i32⟩
  | .hbm, ⟨21, _⟩ => ⟨S16x128x64, .i32⟩
  | .hbm, ⟨22, _⟩ => ⟨S16x128x64, .i32⟩
  | .hbm, ⟨23, _⟩ => ⟨S_, .f32⟩
  | .hbm, ⟨24, _⟩ => ⟨S16x128x1024, .f32⟩
  | .hbm, ⟨25, _⟩ => ⟨S16, .i32⟩
  | .hbm, ⟨26, _⟩ => ⟨S16x1x1, .i32⟩
  | .hbm, ⟨27, _⟩ => ⟨S128, .i32⟩
  | .hbm, ⟨28, _⟩ => ⟨S1x128x1, .i32⟩
  | .hbm, ⟨29, _⟩ => ⟨S_, .i32⟩
  | .hbm, ⟨30, _⟩ => ⟨S16x1x1, .i32⟩
  | .hbm, ⟨31, _⟩ => ⟨S16x1x1, .i1⟩
  | .hbm, ⟨32, _⟩ => ⟨S_, .i32⟩
  | .hbm, ⟨33, _⟩ => ⟨S16x1x1, .i32⟩
  | .hbm, ⟨34, _⟩ => ⟨S16x1x1, .i32⟩
  | .hbm, ⟨35, _⟩ => ⟨S16x1x1, .i32⟩
  | .hbm, ⟨36, _⟩ => ⟨S_, .i32⟩
  | .hbm, ⟨37, _⟩ => ⟨S1x128x1, .i32⟩
  | .hbm, ⟨38, _⟩ => ⟨S1x128x1, .i1⟩
  | .hbm, ⟨39, _⟩ => ⟨S_, .i32⟩
  | .hbm, ⟨40, _⟩ => ⟨S1x128x1, .i32⟩
  | .hbm, ⟨41, _⟩ => ⟨S1x128x1, .i32⟩
  | .hbm, ⟨42, _⟩ => ⟨S1x128x1, .i32⟩
  | .hbm, ⟨43, _⟩ => ⟨S_, .i32⟩
  | .hbm, ⟨44, _⟩ => ⟨S16x128x64, .i32⟩
  | .hbm, ⟨45, _⟩ => ⟨S16x128x64, .i1⟩
  | .hbm, ⟨46, _⟩ => ⟨S_, .i32⟩
  | .hbm, ⟨47, _⟩ => ⟨S16x128x64, .i32⟩
  | .hbm, ⟨48, _⟩ => ⟨S16x128x64, .i32⟩
  | .hbm, ⟨49, _⟩ => ⟨S16x128x64, .i32⟩
  | .hbm, ⟨50, _⟩ => ⟨S16x128x64, .i32⟩
  | .hbm, ⟨51, _⟩ => ⟨S16x128x64, .i32⟩
  | .hbm, ⟨52, _⟩ => ⟨S16x128x64x1, .i32⟩
  | .hbm, ⟨53, _⟩ => ⟨S16x128x64x1, .i32⟩
  | .hbm, ⟨54, _⟩ => ⟨S16x128x64x1, .i32⟩
  | .hbm, ⟨55, _⟩ => ⟨S16x128x64x3, .i32⟩
  | .hbm, ⟨56, _⟩ => ⟨S_, .f32⟩
  | .hbm, ⟨57, _⟩ => ⟨S16x128x64, .f32⟩
  | .hbm, ⟨58, _⟩ => ⟨S16x128x1024, .f32⟩
  | .hbm, ⟨59, _⟩ => ⟨S16x1024x128, .f32⟩
  | .hbm, ⟨60, _⟩ => ⟨S_, .f32⟩
  | .hbm, ⟨61, _⟩ => ⟨S16x1024x3, .f32⟩
  | .hbm, ⟨62, _⟩ => ⟨S16x1024x125, .f32⟩
  | .hbm, ⟨63, _⟩ => ⟨S16x1024x128, .f32⟩
  | .hbm, ⟨64, _⟩ => ⟨S_, .f32⟩
  | .hbm, ⟨65, _⟩ => ⟨S16x1024x2, .f32⟩
  | .hbm, ⟨66, _⟩ => ⟨S16x1024x126, .f32⟩
  | .hbm, ⟨67, _⟩ => ⟨S16x1024x128, .f32⟩
  | .hbm, ⟨68, _⟩ => ⟨S_, .f32⟩
  | .hbm, ⟨69, _⟩ => ⟨S16x1024x1, .f32⟩
  | .hbm, ⟨70, _⟩ => ⟨S16x1024x127, .f32⟩
  | .hbm, ⟨71, _⟩ => ⟨S16x1024x128, .f32⟩
  | .hbm, ⟨72, _⟩ => ⟨S_, .f32⟩
  | .hbm, ⟨73, _⟩ => ⟨S16x1024x1, .f32⟩
  | .hbm, ⟨74, _⟩ => ⟨S16x1024x127, .f32⟩
  | .hbm, ⟨75, _⟩ => ⟨S16x1024x128, .f32⟩
  | .hbm, ⟨76, _⟩ => ⟨S_, .f32⟩
  | .hbm, ⟨77, _⟩ => ⟨S16x1024x2, .f32⟩
  | .hbm, ⟨78, _⟩ => ⟨S16x1024x126, .f32⟩
  | .hbm, ⟨79, _⟩ => ⟨S16x1024x128, .f32⟩
  | .hbm, ⟨80, _⟩ => ⟨S_, .f32⟩
  | .hbm, ⟨81, _⟩ => ⟨S16x1024x3, .f32⟩
  | .hbm, ⟨82, _⟩ => ⟨S16x1024x125, .f32⟩
  | .hbm, ⟨83, _⟩ => ⟨S16x1024x128, .f32⟩
  | .hbm, ⟨84, _⟩ => ⟨S16x7168x128, .f32⟩
  | _, _ => ⟨S16x128x64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_call0_c : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_c_1 : Ref sig .tc := ⟨.hbm, 9, rfl⟩
abbrev main_call0_v5 : Ref sig .tc := ⟨.hbm, 10, rfl⟩
abbrev main_call0_v6 : Ref sig .tc := ⟨.hbm, 11, rfl⟩
abbrev main_call0_c_2 : Ref sig .tc := ⟨.hbm, 12, rfl⟩
abbrev main_call0_v7 : Ref sig .tc := ⟨.hbm, 13, rfl⟩
abbrev main_call0_v8 : Ref sig .tc := ⟨.hbm, 14, rfl⟩
abbrev main_call0_c_3 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_v0 : Ref sig .tc := ⟨.hbm, 22, rfl⟩
abbrev main_cst : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_c_1 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_c_2 : Ref sig .tc := ⟨.hbm, 36, rfl⟩
abbrev main_v11 : Ref sig .tc := ⟨.hbm, 37, rfl⟩
abbrev main_v12 : Ref sig .tc := ⟨.hbm, 38, rfl⟩
abbrev main_c_3 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_c_4 : Ref sig .tc := ⟨.hbm, 43, rfl⟩
abbrev main_v16 : Ref sig .tc := ⟨.hbm, 44, rfl⟩
abbrev main_v17 : Ref sig .tc := ⟨.hbm, 45, rfl⟩
abbrev main_c_5 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_6 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_cst_7 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_8 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_9 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_10 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_cst_11 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_cst_12 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩

abbrev nD : Nat := 1
abbrev τ : Topo := Topo.v7x

variable {F : FTy → Type} [FloatOps F]
-- ==== Proof.Count.lean ====
/- The counts of one tile, as values: what one masked scatter-add of sixteen ones does to the tile's table, and what
   the 512 of them leave. No memory here: words, lanes and iterates only. -/
module

public import proofs.«01_k».proof.Proof.Gen.KernelIdeal
public import proofs.«01_k».proof.Proof.Gen.KernelIdeal.Skeleton
public import Idealize.ShloMosaic.Lib.Pointwise.Index
public import Idealize.ShloMosaic.Lib.ValueLayout

@[expose] public section

noncomputable section

namespace Hist

open Idealize.ShloMosaic Cert.KernelIdeal Cert.KernelIdeal.Gen

variable {F : FTy → Type} [FloatOps F]

/-! ## A scatter-add whose masked lanes name distinct cells -/

section Scatter

variable {s : Shape} {e : EltTy} {d : Fin 1 → Nat}

/-- One lane of a scatter-add. -/
def lane (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = (idxAt idxs h (Shape.ofLane k) a).val) then
      Elt.idxAdd e (g (idxAt idxs h (Shape.ofLane k))) (v (Shape.ofLane k)) else g j
  else g

/-- Lanes none of which names a cell leave it. -/
theorem foldl_lane_of_not (idxs : Fin s.rank → IVec ⟨1, d⟩ 32) (v : Vec F ⟨1, d⟩ e) (mask : IVec ⟨1, d⟩ 1)
    (h : ∀ a x, (idxs a x).toNat < s.size a) (j : s.Idx) (l : List (Fin (d 0)))
    (hj : ∀ k ∈ l, mask (Shape.ofLane k) = 1 → idxAt idxs h (Shape.ofLane k) ≠ j) (f : Vec F s e) :
    l.foldl (lane idxs v mask h) f j = f j := by
  induction l generalizing f with
  | nil => rfl
  | cons k l ih =>
    rw [List.foldl_cons, ih (fun k' hk' => hj k' (List.mem_cons_of_mem _ hk'))]
    unfold lane
    split
    · next hm =>
      have hne := hj k List.mem_cons_self hm
      beta_reduce
      rw [if_neg]
      intro hall
      exact hne (funext fun a => Fin.ext (hall a).symm)
    · rfl

/-- A cell that exactly one lane names gains that lane's value. -/
theorem foldl_lane_of_mem (idxs : Fin s.rank → IVec ⟨1, d⟩ 32) (v : Vec F ⟨1, d⟩ e) (mask : IVec ⟨1, d⟩ 1)
    (h : ∀ a x, (idxs a x).toNat < s.size a) (j : s.Idx) (k : Fin (d 0)) (hm : mask (Shape.ofLane k) = 1)
    (hk : idxAt idxs h (Shape.ofLane k) = j) (l : List (Fin (d 0))) (hl : l.Nodup) (hkl : k ∈ l)
    (huniq : ∀ k', mask (Shape.ofLane k') = 1 → idxAt idxs h (Shape.ofLane k') = j → k' = k) (f : Vec F s e) :
    l.foldl (lane idxs v mask h) f j = Elt.idxAdd e (f j) (v (Shape.ofLane k)) := by
  induction l generalizing f with
  | nil => simp at hkl
  | cons k₁ l ih =>
    rw [List.foldl_cons]
    rcases List.nodup_cons.mp hl with ⟨hk₁, hl'⟩
    by_cases hkk : k₁ = k
    · subst hkk
      rw [foldl_lane_of_not idxs v mask h j l (fun k' hk' hm' hj' => hk₁ (huniq k' hm' hj' ▸ hk'))]
      unfold lane
      rw [if_pos hm]
      beta_reduce
      rw [if_pos (fun a => by rw [hk]), hk]
    · rw [ih hl' (by simpa [Ne.symm hkk] using hkl)]
      congr 1
      unfold lane
      split
      · next hm' =>
        beta_reduce
        rw [if_neg]
        intro hall
        exact hkk (huniq k₁ hm' (funext fun a => Fin.ext (hall a).symm))
      · rfl

/-- A scatter-add is its lanes in order. -/
theorem storeIdx_eq_lanes (f : Vec F s e) (idxs : Fin s.rank → IVec ⟨1, d⟩ 32) (v : Vec F ⟨1, d⟩ e)
    (mask : IVec ⟨1, d⟩ 1) (h : ∀ a x, (idxs a x).toNat < s.size a) :
    storeIdx f idxs v mask true h = (List.finRange (d 0)).foldl (lane idxs v mask h) f := by
  unfold storeIdx
  congr 1
  funext g k
  simp only [if_true]
  rfl

/-- A scatter-add leaves a cell that no masked lane names. -/
theorem storeIdx_add_of_not (f : Vec F s e) (idxs : Fin s.rank → IVec ⟨1, d⟩ 32) (v : Vec F ⟨1, d⟩ e)
    (mask : IVec ⟨1, d⟩ 1) (h : ∀ a x, (idxs a x).toNat < s.size a) (j : s.Idx)
    (hj : ∀ k, mask (Shape.ofLane k) = 1 → idxAt idxs h (Shape.ofLane k) ≠ j) :
    storeIdx f idxs v mask true h j = f j :=
  (congrFun (storeIdx_eq_lanes f idxs v mask h) j).trans <| foldl_lane_of_not idxs v mask h j (List.finRange (d 0)) (fun k _ => hj k) f

/-- A scatter-add raises a cell that exactly one masked lane names by that lane's value. -/
theorem storeIdx_add_of_mem (f : Vec F s e) (idxs : Fin s.rank → IVec ⟨1, d⟩ 32) (v : Vec F ⟨1, d⟩ e)
    (mask : IVec ⟨1, d⟩ 1) (h : ∀ a x, (idxs a x).toNat < s.size a) (j : s.Idx) (k : Fin (d 0))
    (hm : mask (Shape.ofLane k) = 1) (hk : idxAt idxs h (Shape.ofLane k) = j)
    (huniq : ∀ k', mask (Shape.ofLane k') = 1 → idxAt idxs h (Shape.ofLane k') = j → k' = k) :
    storeIdx f idxs v mask true h j = Elt.idxAdd e (f j) (v (Shape.ofLane k)) :=
  (congrFun (storeIdx_eq_lanes f idxs v mask h) j).trans <| foldl_lane_of_mem idxs v mask h j k hm hk (List.finRange (d 0)) (List.nodup_finRange _) (List.mem_finRange k) huniq f

end Scatter

/-! ## The words -/

/-- The row word of trip `t` as the kernel computes it: `t` divided by eight, rounded down. -/
def rowWord (t : Fin k0_t2_loop.trips) : BitVec 32 :=
  let arg7 : BitVec 32 := Scf.iv 0#32 1#32 t
  Scalar.select
    (Scalar.andi
      (Scalar.cmpi .ne (Scalar.subi (Scalar.extui (Scalar.cmpi .sgt arg7 0#32) : BitVec 32) (Scalar.extui (Scalar.cmpi .slt arg7 0#32)))
        (Scalar.subi (Scalar.extui (Scalar.cmpi .sgt 8#32 0#32)) (Scalar.extui (Scalar.cmpi .slt 8#32 0#32))))
      (Scalar.cmpi .ne (Scalar.remsi arg7 8#32) 0#32))
    (Scalar.subi (Scalar.divsi arg7 8#32) 1#32) (Scalar.divsi arg7 8#32)

/-- The first loop's and the second loop's number of trips. -/
theorem trips1 : k0_t1_loop.trips = 512 := by decide +kernel
/-- The counting loop has 512 trips. -/
theorem trips2 : k0_t2_loop.trips = 512 := by decide +kernel

/-- The row of trip `t` is `t / 8`. -/
theorem rowWord_toNat : ∀ t : Fin k0_t2_loop.trips, (rowWord t).toNat = t.val / 8 := by decide +kernel

/-- The word of lane 0's column in trip `t`. -/
def colWord (t : Fin k0_t2_loop.trips) : BitVec 32 :=
  Scalar.muli (Scalar.subi (Scf.iv 0#32 1#32 t) (Scalar.muli (rowWord t) 8#32)) 16#32

/-- A trip's first column: sixteen times its number modulo eight. -/
theorem colWord_eq : ∀ t : Fin k0_t2_loop.trips, colWord t = BitVec.ofNat 32 (16 * (t.val % 8)) := by decide +kernel

/-- Lane `x` of trip `t` is at column `16 (t % 8) + x`. -/
theorem pay2_toNat (t : Fin k0_t2_loop.trips) (x : S16.Idx) : (k0_pay2 t x).toNat = 16 * (t.val % 8) + (x 0).val := by
  have hx : (x 0).val < 16 := (x 0).isLt
  have ht : t.val % 8 < 8 := Nat.mod_lt _ (by decide)
  have h : k0_pay2 t x = colWord t + BitVec.ofNat 32 (x 0).val := by
    show colWord t + iota .scVector S16 32 [0] iota_S16_d0_w32_scVector x = _
    congr 1
    simp [iota]
  rw [h, colWord_eq, BitVec.toNat_add, BitVec.toNat_ofNat, BitVec.toNat_ofNat]
  omega

/-- The word of core `c`'s first row. -/
def baseWord (c : Fin 2) : BitVec 32 := BitVec.ofNat 32 (512 * c.val)

/-- For a class below 1024: the lane's mask bit says that the class lies in the core's half, and the row is then the
    class less the half's first. -/
theorem class_word : ∀ (c : Fin 2) (u : Fin 1024),
    ((IntOp.cmpi .sge (BitVec.ofNat 32 u.val - baseWord c) 0#32 &&& IntOp.cmpi .slt (BitVec.ofNat 32 u.val - baseWord c) 512#32) = 1#1
      ↔ 512 * c.val ≤ u.val ∧ u.val < 512 * c.val + 512) ∧
    (512 * c.val ≤ u.val ∧ u.val < 512 * c.val + 512 → (BitVec.ofNat 32 u.val - baseWord c).toNat = u.val - 512 * c.val) := by
  decide +kernel

/-- The class of a word: its value modulo 1024. -/
def cls (w : BitVec 32) : ℕ := (w &&& 1023#32).toNat

/-- A class is below 1024. -/
theorem cls_lt (w : BitVec 32) : cls w < 1024 := by
  have h : cls w = w.toNat % 2 ^ 10 := by
    show (w &&& 1023#32).toNat = _
    rw [BitVec.toNat_and]
    exact Nat.and_two_pow_sub_one_eq_mod w.toNat 10
  rw [h]
  exact Nat.mod_lt _ (by decide)

/-- The masked word of a lane, as the word of its class. -/
theorem and_eq_cls (w : BitVec 32) : w &&& 1023#32 = BitVec.ofNat 32 (cls w) := by
  apply BitVec.eq_of_toNat_eq
  have h := cls_lt w
  rw [BitVec.toNat_ofNat, Nat.mod_eq_of_lt (by omega)]
  rfl

/-- A lane's mask bit: its class lies in the core's half. -/
theorem pay4_iff (c : Fin 2) (v : Vec F S16 .i32) (x : S16.Idx) :
    k0_pay4 (baseWord c) v x = 1#1 ↔ 512 * c.val ≤ cls (v x) ∧ cls (v x) < 512 * c.val + 512 := by
  have h := (class_word c ⟨cls (v x), cls_lt _⟩).1
  rw [← h, ← and_eq_cls]
  exact Iff.rfl

/-- A masked lane's row. -/
theorem pay5_of_mask (c : Fin 2) (v : Vec F S16 .i32) (x : S16.Idx) (hm : k0_pay4 (baseWord c) v x = 1#1) :
    (k0_pay5 (baseWord c) v x).toNat = cls (v x) - 512 * c.val := by
  have h := (class_word c ⟨cls (v x), cls_lt _⟩).2 ((pay4_iff c v x).1 hm)
  rw [← and_eq_cls] at h
  rw [← h]
  congr 1
  show (if k0_pay4 (baseWord c) v x = 1#1 then _ else _) = _
  rw [if_pos hm]
  rfl

/-- Every lane's row lies in the table: a masked one in the half, the others at row zero. -/
theorem pay5_lt (c : Fin 2) (v : Vec F S16 .i32) (x : S16.Idx) : (k0_pay5 (baseWord c) v x).toNat < 512 := by
  by_cases hm : k0_pay4 (baseWord c) v x = 1#1
  · rw [pay5_of_mask c v x hm]
    have h := (pay4_iff c v x).1 hm
    omega
  · have h : k0_pay5 (baseWord c) v x = 0#32 := by
      show (if k0_pay4 (baseWord c) v x = 1#1 then _ else _) = _
      rw [if_neg hm]
      rfl
    rw [h]
    decide

/-- The kernel's first check holds: every lane's column and row lie in the slab. -/
theorem chk1 (t : Fin k0_t2_loop.trips) : k0_chk1 (k0_pay2 t) (broadcast S16 (rowWord t)) := by
  intro a x
  have ht : t.val < 512 := trips2 ▸ t.isLt
  match a with
  | ⟨0, _⟩ =>
    show (k0_pay2 t x).toNat < 128
    have hx : (x 0).val < 16 := (x 0).isLt
    rw [pay2_toNat]
    omega
  | ⟨1, _⟩ =>
    show (rowWord t).toNat < 64
    rw [rowWord_toNat]
    omega

/-- The kernel's second check holds: every lane's row and column lie in the table. -/
theorem chk2 (c : Fin 2) (v : Vec F S16 .i32) (t : Fin k0_t2_loop.trips) : k0_chk2 (k0_pay2 t) (k0_pay5 (baseWord c) v) := by
  intro a x
  match a with
  | ⟨0, _⟩ => exact pay5_lt c v x
  | ⟨1, _⟩ =>
    show (k0_pay2 t x).toNat < 128
    have hx : (x 0).val < 16 := (x 0).isLt
    rw [pay2_toNat]
    omega

/-! ## The table -/

/-- The kernel's one and its zero. -/
def one : F .f32 := Scalar.ofBits .f32 0x3F800000#32
def zero : F .f32 := Scalar.ofBits .f32 0x00000000#32

/-- What `n` scatter-adds of a one leave in a cell that held zero. -/
def tally (n : ℕ) : F .f32 := (fun x : F .f32 => (Elt.idxAdd .f32 (F := F) x (one : F .f32) : F .f32))^[n] zero

/-- How many of the first `t` trips' lanes name cell `j`: the trips that name its column are `8 n + column / 16`. -/
def hits (h : Vec F S128x64 .i32) (c : Fin 2) (t : ℕ) (j : S512x128.Idx) : ℕ :=
  (Finset.univ.filter fun n : Fin 64 => 8 * n.val + (j 1).val / 16 < t ∧ cls (h (ValueIdx.ix2 (j 1) n)) = 512 * c.val + (j 0).val).card

/-- The table after `t` trips. -/
def table (h : Vec F S128x64 .i32) (c : Fin 2) (t : ℕ) : Vec F S512x128 .f32 := fun j => tally (F := F) (hits h c t j)

/-- Before the first trip no cell has been raised. -/
theorem table_zero (h : Vec F S128x64 .i32) (c : Fin 2) : table h c 0 = fun _ => (zero : F .f32) := by
  funext j
  have h0 : hits h c 0 j = 0 := by simp [hits]
  show tally (hits h c 0 j) = _
  rw [h0]
  rfl

/-- A trip that names the cell raises its count by one. -/
theorem hits_succ_of_mem (h : Vec F S128x64 .i32) (c : Fin 2) (t : ℕ) (j : S512x128.Idx) (n : Fin 64)
    (ht : 8 * n.val + (j 1).val / 16 = t) (hc : cls (h (ValueIdx.ix2 (j 1) n)) = 512 * c.val + (j 0).val) :
    hits h c (t + 1) j = hits h c t j + 1 := by
  unfold hits
  rw [← Finset.card_insert_of_notMem (a := n) (by simp [ht])]
  congr 1
  ext m
  simp only [Finset.mem_filter, Finset.mem_univ, true_and, Finset.mem_insert]
  constructor
  · rintro ⟨hm, hcm⟩
    by_cases hmn : m = n
    · exact Or.inl hmn
    · have : m.val ≠ n.val := fun e => hmn (Fin.ext e)
      exact Or.inr ⟨by omega, hcm⟩
  · rintro (rfl | ⟨hm, hcm⟩)
    · exact ⟨by omega, hc⟩
    · exact ⟨by omega, hcm⟩

/-- A trip that does not leaves it. -/
theorem hits_succ_of_not (h : Vec F S128x64 .i32) (c : Fin 2) (t : ℕ) (j : S512x128.Idx)
    (hn : ∀ n : Fin 64, 8 * n.val + (j 1).val / 16 = t → cls (h (ValueIdx.ix2 (j 1) n)) ≠ 512 * c.val + (j 0).val) :
    hits h c (t + 1) j = hits h c t j := by
  unfold hits
  congr 1
  ext m
  simp only [Finset.mem_filter, Finset.mem_univ, true_and]
  constructor
  · rintro ⟨hm, hcm⟩
    have : ¬ (8 * m.val + (j 1).val / 16 = t) := fun e => hn m e hcm
    exact ⟨by omega, hcm⟩
  · rintro ⟨hm, hcm⟩
    exact ⟨by omega, hcm⟩

/-- What trip `t` gathers out of the slab. -/
def gathered (h : Vec F S128x64 .i32) (t : Fin k0_t2_loop.trips) : Vec F S16 .i32 :=
  loadIdx h ![k0_pay2 t, broadcast S16 (rowWord t)] (k0_idx1_inb _ _ (chk1 t))

/-- What a trip gathers in a lane: the hash at the lane's position and the trip's number. -/
theorem gathered_eq (h : Vec F S128x64 .i32) (t : Fin k0_t2_loop.trips) (x : S16.Idx) (s : Fin 128) (n : Fin 64)
    (hs : s.val = 16 * (t.val % 8) + (x 0).val) (hn : n.val = t.val / 8) : gathered h t x = h (ValueIdx.ix2 s n) := by
  show h _ = h _
  congr 1
  funext a
  match a with
  | ⟨0, _⟩ => exact Fin.ext ((pay2_toNat t x).trans hs.symm)
  | ⟨1, _⟩ => exact Fin.ext ((rowWord_toNat t).trans hn.symm)

/-- **One trip**: the masked scatter-add of sixteen ones takes the table after `t` trips to the table after `t + 1`. -/
theorem table_succ (h : Vec F S128x64 .i32) (c : Fin 2) (t : Fin k0_t2_loop.trips)
    (hc : ∀ a x, ((![k0_pay5 (baseWord c) (gathered h t), k0_pay2 t] : Fin 2 → IVec S16 32) a x).toNat < S512x128.size a) :
    storeIdx (table h c t.val) ![k0_pay5 (baseWord c) (gathered h t), k0_pay2 t] (k0_pay1 (F := F))
      (k0_pay4 (baseWord c) (gathered h t)) true hc = table h c (t.val + 1) := by
  have ht : t.val < 512 := trips2 ▸ t.isLt
  funext j
  have hj0 : (j 0).val < 512 := (j 0).isLt
  have hj1 : (j 1).val < 128 := (j 1).isLt
  -- the place of a lane
  have hplace : ∀ k : Fin 16, k0_pay4 (baseWord c) (gathered h t) (Shape.ofLane k) = 1#1 →
      ((idxAt (s := S512x128) ![k0_pay5 (baseWord c) (gathered h t), k0_pay2 t] hc (Shape.ofLane k) = j) ↔
        ((j 1).val = 16 * (t.val % 8) + k.val ∧ cls (gathered h t (Shape.ofLane k)) = 512 * c.val + (j 0).val)) := by
    intro k hm
    have h0 : (idxAt (s := S512x128) ![k0_pay5 (baseWord c) (gathered h t), k0_pay2 t] hc (Shape.ofLane k) 0).val
        = cls (gathered h t (Shape.ofLane k)) - 512 * c.val := pay5_of_mask c _ _ hm
    have h1 : (idxAt (s := S512x128) ![k0_pay5 (baseWord c) (gathered h t), k0_pay2 t] hc (Shape.ofLane k) 1).val
        = 16 * (t.val % 8) + k.val := pay2_toNat t _
    have hr := (pay4_iff c _ _).1 hm
    constructor
    · rintro rfl
      exact ⟨h1, by omega⟩
    · rintro ⟨e1, e0⟩
      funext a
      match a with
      | ⟨0, _⟩ => exact Fin.ext (h0.trans (show _ = (j 0).val by omega))
      | ⟨1, _⟩ => exact Fin.ext (h1.trans e1.symm)
  by_cases hit : (j 1).val / 16 = t.val % 8 ∧ cls (h (ValueIdx.ix2 (j 1) ⟨t.val / 8, by omega⟩)) = 512 * c.val + (j 0).val
  · obtain ⟨hcol, hcls⟩ := hit
    have hg : gathered h t (Shape.ofLane (d := ![16]) ⟨(j 1).val % 16, Nat.mod_lt _ (by decide)⟩) = h (ValueIdx.ix2 (j 1) ⟨t.val / 8, by omega⟩) :=
      gathered_eq h t _ _ _ (show (j 1).val = 16 * (t.val % 8) + (j 1).val % 16 by omega) rfl
    have hm : k0_pay4 (baseWord c) (gathered h t) (Shape.ofLane (d := ![16]) ⟨(j 1).val % 16, Nat.mod_lt _ (by decide)⟩) = 1#1 :=
      (pay4_iff c _ _).2 (by rw [hg]; omega)
    rw [storeIdx_add_of_mem _ _ _ _ _ j ⟨(j 1).val % 16, Nat.mod_lt _ (by decide)⟩ hm
      ((hplace _ hm).2 ⟨show (j 1).val = 16 * (t.val % 8) + (j 1).val % 16 by omega, by rw [hg]; exact hcls⟩)
      (fun k' hm' hk' => Fin.ext (by
        have := ((hplace k' hm').1 hk').1
        show k'.val = (j 1).val % 16
        have hk16 : k'.val < 16 := k'.isLt
        omega))]
    show Elt.idxAdd .f32 (tally (hits h c t.val j)) one = tally (hits h c (t.val + 1) j)
    rw [hits_succ_of_mem h c t.val j ⟨t.val / 8, by omega⟩ (show 8 * (t.val / 8) + (j 1).val / 16 = t.val by omega) hcls]
    unfold tally
    rw [Function.iterate_succ_apply']
  · rw [storeIdx_add_of_not]
    · show tally (hits h c t.val j) = tally (hits h c (t.val + 1) j)
      rw [hits_succ_of_not h c t.val j]
      intro n hn hcls
      apply hit
      have hnt : n = ⟨t.val / 8, by omega⟩ := Fin.ext (show n.val = t.val / 8 by omega)
      rw [hnt] at hcls
      exact ⟨by omega, hcls⟩
    · intro k hm hk
      obtain ⟨e1, e0⟩ := (hplace k hm).1 hk
      have hk16 : k.val < 16 := k.isLt
      apply hit
      have hg : gathered h t (Shape.ofLane k) = h (ValueIdx.ix2 (j 1) ⟨t.val / 8, by omega⟩) := gathered_eq h t _ _ _ e1 rfl
      rw [← hg]
      exact ⟨by omega, e0⟩

end Hist
-- ==== Proof.Setup.lean ====
/- The program as the launch theorem sees it, the arrays it moves, and what the SparseCore call leaves in the counts'
   array, as a value. -/
module

public import proofs.«01_k».proof.Proof.Count
public import proofs.«01_k».proof.Proof.Gen.KernelIdeal.Launch
public import Idealize.ShloMosaic.Lib.SparseCore.Quiescent
public import Idealize.ShloMosaic.Lib.SparseCore.Ops
public import Idealize.ShloMosaic.Lib.Pipeline.Kit
public import Idealize.ShloMosaic.Lib.Pipeline.Regions
public import Idealize.ShloMosaic.Lib.Tactic
public import Idealize.ShloMosaic.Lib.ValueLayout
public import Idealize.ShloMosaic.Lib.ViewIndex

@[expose] public section

noncomputable section

namespace Hist

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The launch's semaphores are distinct, none is a kernel's, and no buffer of a SparseCore is shared by its tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The pipeline's rounds: the left half of the right factor. -/
abbrev EP : Emb UP (MT nD τ sig (HIx 1) (Elt F) ℕ UU ℕ) :=
  ((Emb.inl : Emb UP (UP × Counters)).trans (Emb.inr : Emb (UP × Counters) UU)).trans uEmb.toEmb

instance EP_lands : (EP (F := F)).LandsIn (upEmb : UEmb _ 𝕄) := by unfold EP; infer_instance

/-! ## The arrays -/

abbrev xLoc (d : Dev nD) : Loc nD τ sig := (SparseCore.T d).loc main_arg0
abbrev oLoc (d : Dev nD) : Loc nD τ sig := (SparseCore.T d).loc main_v0
abbrev rLoc (d : Dev nD) : Loc nD τ sig := (SparseCore.T d).loc main_v1

/-- The grid point of SparseCore `c`, subcore `w`. -/
def coordsV (c : Fin 2) (w : Fin 16) : grid0.Coords := fun
  | 0 => c
  | 1 => w
  | ⟨_ + 2, h⟩ => absurd h (Nat.not_lt.2 (Nat.le_add_left _ _))

/-- A tile's slab of hashes starts at its batch; -/
theorem off1_eq : ∀ L : grid0.Coords, k0_off1 L = ![(L 1).val, 0, 0] := by decide +kernel
/-- and its block of counts at its batch and its half's first class. -/
theorem off10_eq : ∀ L : grid0.Coords, k0_off10 L = ![(L 1).val, 512 * (L 0).val, 0] := by decide +kernel

instance off1_closed (L : grid0.Coords) : ClosedOff (k0_off1 L) := ⟨![(L 1).val, 0, 0], off1_eq L⟩
instance off10_closed (L : grid0.Coords) : ClosedOff (k0_off10 L) := ⟨![(L 1).val, 512 * (L 0).val, 0], off10_eq L⟩

abbrev slabR (L : grid0.Coords) : Rect S16x128x64 := Rect.unit (s := S16x128x64) (k0_off1 L) S1x128x64.size (k0_off1_inb L)
abbrev blkR (L : grid0.Coords) : Rect S16x1024x128 := Rect.unit (s := S16x1024x128) (k0_off10 L) S1x512x128.size (k0_off10_inb L)

abbrev slabSet (L : grid0.Coords) : Finset S16x128x64.Idx := (slabR L).set
abbrev blkSet (L : grid0.Coords) : Finset S16x1024x128.Idx := (blkR L).set

/-- A tile's slab is its batch's. -/
theorem mem_slabSet (L : grid0.Coords) (j : S16x128x64.Idx) : j ∈ slabSet L ↔ (j 0).val = (L 1).val := by
  unfold slabSet slabR
  rw [Rect.mem_set_unit]
  have h1 : (j 1).val < 128 := (j 1).isLt
  have h2 : (j 2).val < 64 := (j 2).isLt
  constructor
  · intro h
    have h0 := h 0
    rw [off1_eq] at h0
    have : (L 1).val ≤ (j 0).val ∧ (j 0).val < (L 1).val + 1 := h0
    omega
  · intro h a
    rw [off1_eq]
    match a with
    | 0 => exact ⟨h.ge, show (j 0).val < (L 1).val + 1 by omega⟩
    | 1 => exact ⟨Nat.zero_le _, show (j 1).val < 0 + 128 by omega⟩
    | 2 => exact ⟨Nat.zero_le _, show (j 2).val < 0 + 64 by omega⟩

/-- A tile's block is its batch's, in its SparseCore's half of the classes. -/
theorem mem_blkSet (L : grid0.Coords) (j : S16x1024x128.Idx) : j ∈ blkSet L ↔ (j 0).val = (L 1).val ∧ (j 1).val / 512 = (L 0).val := by
  unfold blkSet blkR
  rw [Rect.mem_set_unit]
  have h2 : (j 2).val < 128 := (j 2).isLt
  constructor
  · intro h
    have h0 := h 0
    have h1 := h 1
    rw [off10_eq] at h0 h1
    have h0 : (L 1).val ≤ (j 0).val ∧ (j 0).val < (L 1).val + 1 := h0
    have h1 : 512 * (L 0).val ≤ (j 1).val ∧ (j 1).val < 512 * (L 0).val + 512 := h1
    omega
  · rintro ⟨h0, h1⟩ a
    rw [off10_eq]
    match a with
    | 0 => exact ⟨h0.ge, show (j 0).val < (L 1).val + 1 by omega⟩
    | 1 => exact ⟨show 512 * (L 0).val ≤ (j 1).val by omega, show (j 1).val < 512 * (L 0).val + 512 by omega⟩
    | 2 => exact ⟨Nat.zero_le _, show (j 2).val < 0 + 128 by omega⟩

variable [FloatOps F]

/-! ## The counts' array, as a value -/

/-- How many of a batch's 64 hashes at a position fall into a class. -/
def classCount (x : Vec F S16x128x64 .i32) (b : Fin 16) (r : ℕ) (s : Fin 128) : ℕ :=
  (Finset.univ.filter fun n : Fin 64 => cls (x (ValueIdx.ix3 b s n)) = r).card

/-- What the SparseCore call leaves in the counts' array. -/
def counts (x : Vec F S16x128x64 .i32) : Vec F S16x1024x128 .f32 :=
  fun j => tally (F := F) (classCount x (j 0) (j 1).val (j 2))

end Hist
-- ==== Proof.Shift.lean ====
/- The shifted copies as values: what the emitting kernel stores at the seven grid points of a batch, by one formula in
   the point's second coordinate, and what the result's array holds at the end. -/
module

public import proofs.«01_k».proof.Proof.Setup
public import Idealize.ShloMosaic.Lib.Pipeline.Value

@[expose] public section

noncomputable section

namespace Hist

open Cert.KernelIdeal Cert.KernelIdeal.Gen
open Idealize.ShloMosaic

variable {F : FTy → Type} [FloatOps F]

/-! ## One row, shifted -/

/-- A row moved by `k - 3` places, zero where it has no element: place `s` holds element `s + k - 3`. -/
def shifted (k : ℕ) (row : Fin 128 → F .f32) (s : Fin 128) : F .f32 :=
  if h : 3 ≤ s.val + k ∧ s.val + k < 131 then row ⟨s.val + k - 3, by omega⟩ else zero

/-- A place before the moved row's first element holds zero. -/
theorem shifted_of_lt {k : ℕ} {row : Fin 128 → F .f32} {s : Fin 128} (h : s.val + k < 3) : shifted k row s = zero :=
  dif_neg fun h' => by omega
/-- A place past the moved row's last element holds zero. -/
theorem shifted_of_ge {k : ℕ} {row : Fin 128 → F .f32} {s : Fin 128} (h : 131 ≤ s.val + k) : shifted k row s = zero :=
  dif_neg fun h' => by omega
/-- A place that an element is moved to holds that element. -/
theorem shifted_of_eq {k : ℕ} {row : Fin 128 → F .f32} {s : Fin 128} (j : Fin 128) (h : j.val + 3 = s.val + k) : shifted k row s = row j := by
  have := j.isLt
  unfold shifted
  rw [dif_pos (by omega)]
  exact congrArg row (Fin.ext (show s.val + k - 3 = j.val by omega))

/-- The tail of each row, zeros behind it, is the row moved left. -/
theorem cat_left {w n k : ℕ} (hk : k = w + 3) (x : (⟨2, ![1024, 128]⟩ : Shape).Idx → F .f32)
    (hs : (⟨2, ![1024, 128]⟩ : Shape).Slices ![0, w] ⟨2, ![1024, n]⟩)
    (hc : Shape.Concatenates [⟨2, ![1024, n]⟩, ⟨2, ![1024, w]⟩] (⟨2, ![1024, 128]⟩ : Shape) 1) (hn : n + w = 128) (r : Fin 1024) (s : Fin 128) :
    concatenate (⟨2, ![1024, 128]⟩ : Shape) 1 [⟨⟨2, ![1024, n]⟩, extractStridedSlice ⟨2, ![1024, n]⟩ ![0, w] x hs⟩, ⟨⟨2, ![1024, w]⟩, broadcast ⟨2, ![1024, w]⟩ (zero : F .f32)⟩] hc (ValueIdx.ix2 r s)
      = shifted k (fun j => x (ValueIdx.ix2 r j)) s := by
  have hs' := s.isLt
  by_cases h : s.val < n
  · rw [concatenate_pair_apply_left 1 _ _ hc _ rfl (ValueIdx.ix2 r (⟨s.val, h⟩ : Fin n)) (fun b => match b with | 0 => rfl | 1 => rfl),
      extractStridedSlice_apply _ _ _ _ (ValueIdx.ix2 r (⟨s.val + w, by omega⟩ : Fin 128)) (fun a => match a with
        | 0 => show r.val = 0 + r.val by omega
        | 1 => show s.val + w = w + s.val by omega)]
    exact (shifted_of_eq (row := fun j => x (ValueIdx.ix2 r j)) (⟨s.val + w, by omega⟩ : Fin 128) (show s.val + w + 3 = s.val + k by omega)).symm
  · rw [concatenate_pair_apply_right 1 _ _ hc (ValueIdx.ix2 r s) rfl rfl (ValueIdx.ix2 r (⟨s.val - n, by omega⟩ : Fin w))
      (fun b hb => match b, hb with | 0, _ => rfl | 1, hb => absurd rfl hb) (show s.val - n + n = s.val by omega)]
    exact (shifted_of_ge (by omega)).symm

/-- Zeros with the head of each row behind them are the row moved right. -/
theorem cat_right {w n k : ℕ} (hk : k + w = 3) (x : (⟨2, ![1024, 128]⟩ : Shape).Idx → F .f32)
    (hs : (⟨2, ![1024, 128]⟩ : Shape).Slices ![0, 0] ⟨2, ![1024, n]⟩)
    (hc : Shape.Concatenates [⟨2, ![1024, w]⟩, ⟨2, ![1024, n]⟩] (⟨2, ![1024, 128]⟩ : Shape) 1) (hn : w + n = 128) (r : Fin 1024) (s : Fin 128) :
    concatenate (⟨2, ![1024, 128]⟩ : Shape) 1 [⟨⟨2, ![1024, w]⟩, broadcast ⟨2, ![1024, w]⟩ (zero : F .f32)⟩, ⟨⟨2, ![1024, n]⟩, extractStridedSlice ⟨2, ![1024, n]⟩ ![0, 0] x hs⟩] hc (ValueIdx.ix2 r s)
      = shifted k (fun j => x (ValueIdx.ix2 r j)) s := by
  have hs' := s.isLt
  by_cases h : s.val < w
  · rw [concatenate_pair_apply_left 1 _ _ hc _ rfl (ValueIdx.ix2 r (⟨s.val, h⟩ : Fin w)) (fun b => match b with | 0 => rfl | 1 => rfl)]
    exact (shifted_of_lt (by omega)).symm
  · rw [concatenate_pair_apply_right 1 _ _ hc (ValueIdx.ix2 r s) rfl rfl (ValueIdx.ix2 r (⟨s.val - w, by omega⟩ : Fin n))
      (fun b hb => match b, hb with | 0, _ => rfl | 1, hb => absurd rfl hb) (show s.val - w + w = s.val by omega),
      extractStridedSlice_apply _ _ _ _ (ValueIdx.ix2 r (⟨s.val - w, by omega⟩ : Fin 128)) (fun a => match a with
        | 0 => show r.val = 0 + r.val by omega
        | 1 => show s.val - w = 0 + (s.val - w) by omega)]
    exact (shifted_of_eq (row := fun j => x (ValueIdx.ix2 r j)) (⟨s.val - w, by omega⟩ : Fin 128) (show s.val - w + 3 = s.val + k by omega)).symm

/-! ## The block a grid point stores -/

/-- A batch's counts, each class's row moved by `k - 3` places. -/
def shiftBlock (k : ℕ) (X : Vec F S1x1024x128 .f32) : Vec F S1x1024x128 .f32 :=
  fun j => shifted k (fun s => X (ValueIdx.ix3 (0 : Fin 1) (j 1) s)) (j 2)

/-- The loaded block without its batch axis, read at a place. -/
theorem pay1_apply (X : Vec F S1x1024x128 .f32) (r : Fin 1024) (s : Fin 128) : k1_pay1 X (ValueIdx.ix2 r s) = X (ValueIdx.ix3 (0 : Fin 1) r s) :=
  ValueIdx.shapeCast_1ab_ab_apply X _ r s

/-- A block of 1024 rows, cast to a batch of one, is the shifted block if its rows are the shifted rows. -/
theorem cast_eq_shiftBlock (k : ℕ) (X : Vec F S1x1024x128 .f32) (y : Vec F S1024x128 .f32) (h : S1024x128.ShapeCasts S1x1024x128)
    (hy : ∀ (r : Fin 1024) (s : Fin 128), y (ValueIdx.ix2 r s) = shifted k (fun j => k1_pay1 X (ValueIdx.ix2 r j)) s) :
    shapeCast S1x1024x128 y h = shiftBlock k X := by
  funext j
  rw [ValueIdx.eq_ix3 j]
  refine (ValueIdx.shapeCast_ab_1ab_apply y h (j 0) (j 1) (j 2)).trans ((hy (j 1) (j 2)).trans ?_)
  exact congrArg (fun f => shifted k f (j 2)) (funext fun s => pay1_apply X (j 1) s)

/-- The store of shift 6 is the block moved left by three. -/
theorem pay2_eq (X : Vec F S1x1024x128 .f32) : k1_pay2 X = shiftBlock 6 X :=
  cast_eq_shiftBlock 6 X _ _ fun r s => cat_left rfl (k1_pay1 X) _ _ rfl r s
/-- The store of shift 5 is the block moved left by two. -/
theorem pay3_eq (X : Vec F S1x1024x128 .f32) : k1_pay3 X = shiftBlock 5 X :=
  cast_eq_shiftBlock 5 X _ _ fun r s => cat_left rfl (k1_pay1 X) _ _ rfl r s
/-- The store of shift 4 is the block moved left by one. -/
theorem pay4_eq (X : Vec F S1x1024x128 .f32) : k1_pay4 X = shiftBlock 4 X :=
  cast_eq_shiftBlock 4 X _ _ fun r s => cat_left rfl (k1_pay1 X) _ _ rfl r s
/-- The store of shift 3 is the block itself. -/
theorem pay5_eq (X : Vec F S1x1024x128 .f32) : k1_pay5 X = shiftBlock 3 X :=
  cast_eq_shiftBlock 3 X _ _ fun r s => (shifted_of_eq (row := fun j => k1_pay1 X (ValueIdx.ix2 r j)) s rfl).symm
/-- The store of shift 2 is the block moved right by one. -/
theorem pay6_eq (X : Vec F S1x1024x128 .f32) : k1_pay6 X = shiftBlock 2 X :=
  cast_eq_shiftBlock 2 X _ _ fun r s => cat_right rfl (k1_pay1 X) _ _ rfl r s
/-- The store of shift 1 is the block moved right by two. -/
theorem pay7_eq (X : Vec F S1x1024x128 .f32) : k1_pay7 X = shiftBlock 1 X :=
  cast_eq_shiftBlock 1 X _ _ fun r s => cat_right rfl (k1_pay1 X) _ _ rfl r s
/-- The store of shift 0 is the block moved right by three. -/
theorem pay8_eq (X : Vec F S1x1024x128 .f32) : k1_pay8 X = shiftBlock 0 X :=
  cast_eq_shiftBlock 0 X _ _ fun r s => cat_right rfl (k1_pay1 X) _ _ rfl r s

/-! ## The switch's conditions -/

/-- The first conditional passes over shift 0. -/
theorem cond1_iff : ∀ i : grid1.Coords, k1_cond1 i = 1#1 ↔ (i 1).val ≠ 0 := by decide +kernel
/-- The second conditional passes over shift 1. -/
theorem cond2_iff : ∀ i : grid1.Coords, k1_cond2 i = 1#1 ↔ (i 1).val ≠ 1 := by decide +kernel
/-- The third conditional passes over shift 2. -/
theorem cond3_iff : ∀ i : grid1.Coords, k1_cond3 i = 1#1 ↔ (i 1).val ≠ 2 := by decide +kernel
/-- The fourth conditional passes over shift 3. -/
theorem cond4_iff : ∀ i : grid1.Coords, k1_cond4 i = 1#1 ↔ (i 1).val ≠ 3 := by decide +kernel
/-- The fifth conditional passes over shift 4. -/
theorem cond5_iff : ∀ i : grid1.Coords, k1_cond5 i = 1#1 ↔ (i 1).val ≠ 4 := by decide +kernel
/-- The sixth conditional passes over shift 5. -/
theorem cond6_iff : ∀ i : grid1.Coords, k1_cond6 i = 1#1 ↔ (i 1).val ≠ 5 := by decide +kernel
/-- At every point some branch stores: the result's window is never idle. -/
theorem idle1_eq : ∀ (w : Fin 2) (i : grid1.Coords), idle1 w i = false := by decide +kernel

/-! ## The result's array, as a value -/

/-- What the emitting kernel leaves in the result's array: batch by batch, the seven shifted copies of the counts one
    below the other. -/
def emitted (f : Vec F S16x1024x128 .f32) : Vec F S16x7168x128 .f32 :=
  fun j => shifted ((j 1).val / 1024) (fun s => f (ValueIdx.ix3 (j 0) (⟨(j 1).val % 1024, Nat.mod_lt _ (by decide)⟩ : Fin 1024) s)) (j 2)

end Hist
-- ==== Proof.Cells.lean ====
/- The cells of a tile's slab and block: what the slab holds of the hashes, where the block lies among the counts, and
   that the block written with the finished table holds the counts. -/
module

public import proofs.«01_k».proof.Proof.Setup

@[expose] public section

noncomputable section

namespace Hist

open Cert.KernelIdeal Cert.KernelIdeal.Gen
open Idealize.ShloMosaic

variable {F : FTy → Type}

-- the kernel's memrefs, spelt as the body table passes them
local notation "xV" => (Memref.whole Cert.KernelIdeal.main_arg0_scv : Memref Cert.KernelIdeal.sig Kind.scVector Space.hbm Cert.KernelIdeal.S16x128x64 EltTy.i32)
local notation "oV" => (Memref.whole Cert.KernelIdeal.main_v0_scv : Memref Cert.KernelIdeal.sig Kind.scVector Space.hbm Cert.KernelIdeal.S16x1024x128 EltTy.f32)
local notation "sH" => (Memref.whole Cert.KernelIdeal.cc0_scratch0 : Memref Cert.KernelIdeal.sig Kind.scVector Space.vmem Cert.KernelIdeal.S128x64 EltTy.i32)
local notation "sC" => (Memref.whole Cert.KernelIdeal.cc0_scratch1 : Memref Cert.KernelIdeal.sig Kind.scVector Space.vmem Cert.KernelIdeal.S512x128 EltTy.f32)

variable (L : grid0.Coords)

/-- The slab and the block, squeezed, as the task addresses them. -/
abbrev slabM (L : grid0.Coords) : Memref sig .scVector .hbm S128x64 .i32 := ((xV).slice (slabR L) (fun _ => rfl)).squeeze S128x64 squeezes_S1x128x64_S128x64
abbrev blkM (L : grid0.Coords) : Memref sig .scVector .hbm S512x128 .f32 := ((oV).slice (blkR L) (fun _ => rfl)).squeeze S512x128 squeezes_S1x512x128_S512x128

variable [FloatOps F]

/-- The slab's contents, as the tile reads them. -/
def slab (x : Vec F S16x128x64 .i32) (L : grid0.Coords) : Vec F S128x64 .i32 := (slabM L).view.read (Elt F) x

/-- The slab at a position and a place of it. -/
theorem slab_apply (x : Vec F S16x128x64 .i32) (s : Fin 128) (n : Fin 64) : slab x L (ValueIdx.ix2 s n) = x (ValueIdx.ix3 (L 1) s n) := by
  show x ((slabR L).emb (Shape.reshapeEquiv squeezes_S1x128x64_S128x64.numel_eq (ValueIdx.ix2 s n))) = _
  congr 1
  rw [ValueIdx.reshapeEquiv_ix2_1ab]
  refine Rect.emb_eq_of_coords _ _ _ fun a => ?_
  show _ = (k0_off1 L) a + 1 * _
  rw [off1_eq]
  match a with
  | 0 => show (L 1).val = (L 1).val + 1 * 0; omega
  | 1 => show s.val = 0 + 1 * s.val; omega
  | 2 => show n.val = 0 + 1 * n.val; omega

/-- Where the block's cell `(r, s)` lies in the counts' array. -/
theorem blk_emb (r : Fin 512) (s : Fin 128) (hr : 512 * (L 0).val + r.val < 1024) :
    (blkR L).emb (Shape.reshapeEquiv squeezes_S1x512x128_S512x128.numel_eq (ValueIdx.ix2 r s)) = ValueIdx.ix3 (L 1) (⟨512 * (L 0).val + r.val, hr⟩ : Fin 1024) s := by
  rw [ValueIdx.reshapeEquiv_ix2_1ab]
  refine Rect.emb_eq_of_coords _ _ _ fun a => ?_
  show _ = (k0_off10 L) a + 1 * _
  rw [off10_eq]
  match a with
  | 0 => show (L 1).val = (L 1).val + 1 * 0; omega
  | 1 => show 512 * (L 0).val + r.val = 512 * (L 0).val + 1 * r.val; omega
  | 2 => show s.val = 0 + 1 * s.val; omega

/-- After all 512 trips a cell of the table is its class's count. -/
theorem hits_all (x : Vec F S16x128x64 .i32) (r : Fin 512) (s : Fin 128) :
    hits (slab x L) (L 0) 512 (ValueIdx.ix2 r s) = classCount x (L 1) (512 * (L 0).val + r.val) s := by
  unfold hits classCount
  congr 1
  ext n
  have hs : s.val < 128 := s.isLt
  have hn : n.val < 64 := n.isLt
  have h1 : 8 * n.val + s.val / 16 < 512 := by omega
  simp only [Finset.mem_filter, Finset.mem_univ, true_and]
  show (8 * n.val + s.val / 16 < 512 ∧ cls (slab x L (ValueIdx.ix2 s n)) = 512 * (L 0).val + r.val) ↔ _
  rw [slab_apply]
  exact ⟨fun h => h.2, fun h => ⟨h1, h⟩⟩

/-- **The write-out**: over the tile's block, the array written with the finished table is the counts. -/
theorem written (x : Vec F S16x128x64 .i32) (f : Vec F S16x1024x128 .f32) :
    ∀ i ∈ blkSet L, (blkM L).view.writes (Elt F) f [⟨Rect.whole S512x128, table (slab x L) (L 0) 512⟩] i = counts x i := by
  intro i hi
  have hb := (mem_blkSet L i).mp hi
  have hL0 : (L 0).val < 2 := (L 0).isLt
  have hi1 : (i 1).val < 1024 := (i 1).isLt
  have hr : (i 1).val - 512 * (L 0).val < 512 := by omega
  have hr' : 512 * (L 0).val + ((i 1).val - 512 * (L 0).val) < 1024 := by omega
  have hi' : i = ValueIdx.ix3 (L 1) (⟨512 * (L 0).val + ((i 1).val - 512 * (L 0).val), hr'⟩ : Fin 1024) (i 2) := by
    refine Shape.idx3_ext hb.1 ?_ rfl
    show (i 1).val = 512 * (L 0).val + ((i 1).val - 512 * (L 0).val)
    omega
  have he : ((blkM L).view.slice (Rect.whole S512x128)).emb (ValueIdx.ix2 (⟨(i 1).val - 512 * (L 0).val, hr⟩ : Fin 512) (i 2 : Fin 128)) = i :=
    (congrArg (blkM L).view.emb (Rect.emb_whole_apply S512x128 _)).trans ((blk_emb L ⟨(i 1).val - 512 * (L 0).val, hr⟩ (i 2) hr').trans hi'.symm)
  have hw := View.write_emb_of_mem (v := (blkM L).view.slice (Rect.whole S512x128)) (Val := Elt F) f (table (slab x L) (L 0) 512)
    (Finset.mem_univ (ValueIdx.ix2 (⟨(i 1).val - 512 * (L 0).val, hr⟩ : Fin 512) (i 2 : Fin 128)))
  refine (congrArg (((blkM L).view.slice (Rect.whole S512x128)).write (Elt F) f (table (slab x L) (L 0) 512) Finset.univ) he.symm).trans (hw.trans ?_)
  have hcc : ∀ (b b' : Fin 16) (r r' : ℕ) (s : Fin 128), b = b' → r = r' → classCount x b r s = classCount x b' r' s := by
    rintro _ _ _ _ _ rfl rfl; rfl
  exact congrArg tally ((hits_all L x ⟨(i 1).val - 512 * (L 0).val, hr⟩ (i 2)).trans
    (hcc _ _ _ _ _ (Fin.ext hb.1.symm) (show 512 * (L 0).val + ((i 1).val - 512 * (L 0).val) = (i 1).val by omega)))

/-- Stores of one value leave it wherever one of them reaches, or where it was before. -/
theorem writes_const (f : Vec F S512x128 .f32) (c : F .f32) (P : List (View.Piece (Elt F) S512x128 .f32))
    (hP : ∀ p ∈ P, ∀ x, p.2 x = c) (y : S512x128.Idx) (h : (∃ p ∈ P, y ∈ p.1.set) ∨ f y = c) :
    (sC).view.writes (Elt F) f P y = c := by
  by_cases hc : ∃ p ∈ P, y ∈ p.1.set
  · exact View.read_writes_apply_of_pieces (sC).view f (fun _ => c) P hP y hc
  · refine (View.read_writes_apply_of_forall_not_mem (sC).view f y P ?_).trans (h.resolve_left hc)
    exact fun p hp hy => hc ⟨p, hp, hy⟩

/-- A store of sixteen cells of row `k` from column `o` reaches those. -/
theorem mem_row (off : Fin S512x128.rank → Nat) (inb : ∀ a, off a + S1x16.size a ≤ S512x128.size a) (k o : ℕ) (ho : off = ![k, o]) (y : S512x128.Idx)
    (h0 : (y 0).val = k) (h1 : o ≤ (y 1).val ∧ (y 1).val < o + 16) : y ∈ (Rect.unit (s := S512x128) off S1x16.size inb).set := by
  rw [Rect.mem_set_unit]
  subst ho
  intro a
  match a with
  | 0 => exact ⟨h0.ge, show (y 0).val < k + 1 by omega⟩
  | 1 => exact h1

/-- A store of sixteen zeros. -/
abbrev zeroPiece (off : Fin S512x128.rank → Nat) (inb : ∀ a, off a + S1x16.size a ≤ S512x128.size a) : View.Piece (Elt F) S512x128 .f32 :=
  ⟨Rect.unit (s := S512x128) off S1x16.size inb, shapeCast S1x16 (k0_pay6 (F := F)) shapeCasts_S16_S1x16⟩

/-- The zeroing loop's stores in trip `k`, the last first. -/
abbrev zeroPieces (k : Fin k0_t1_loop.trips) : List (View.Piece (Elt F) S512x128 .f32) :=
  [zeroPiece (k0_off9 k) (k0_off9_inb k), zeroPiece (k0_off8 k) (k0_off8_inb k), zeroPiece (k0_off7 k) (k0_off7_inb k), zeroPiece (k0_off6 k) (k0_off6_inb k), zeroPiece (k0_off5 k) (k0_off5_inb k), zeroPiece (k0_off4 k) (k0_off4_inb k), zeroPiece (k0_off3 k) (k0_off3_inb k), zeroPiece (k0_off2 k) (k0_off2_inb k)]

/-- **One trip of the zeroing loop**: row `k` becomes zero, the rows before it stay. -/
theorem zero_trip (k : Fin k0_t1_loop.trips) (f : Vec F S512x128 .f32) (hf : ∀ j : S512x128.Idx, (j 0).val < k.val → f j = zero)
    (j : S512x128.Idx) (hj : (j 0).val < k.val + 1) : (sC).view.writes (Elt F) f (zeroPieces k) j = zero := by
  refine writes_const _ _ _ ?_ j ?_
  · intro p hp x
    simp only [zeroPieces, List.mem_cons, List.not_mem_nil, or_false] at hp
    rcases hp with rfl | rfl | rfl | rfl | rfl | rfl | rfl | rfl <;> rfl
  · by_cases hk : (j 0).val < k.val
    · exact .inr (hf j hk)
    left
    have h0 : (j 0).val = k.val := by omega
    have h1 : (j 1).val < 128 := (j 1).isLt
    have hcase : (j 1).val / 16 = 0 ∨ (j 1).val / 16 = 1 ∨ (j 1).val / 16 = 2 ∨ (j 1).val / 16 = 3 ∨ (j 1).val / 16 = 4
      ∨ (j 1).val / 16 = 5 ∨ (j 1).val / 16 = 6 ∨ (j 1).val / 16 = 7 := by omega
    rcases hcase with h | h | h | h | h | h | h | h
    · exact ⟨zeroPiece (k0_off2 k) (k0_off2_inb k), by simp only [zeroPieces, List.mem_cons, true_or, or_true], mem_row _ (k0_off2_inb k) k.val 0 (k0_off2_eq k) j h0 (by omega)⟩
    · exact ⟨zeroPiece (k0_off3 k) (k0_off3_inb k), by simp only [zeroPieces, List.mem_cons, true_or, or_true], mem_row _ (k0_off3_inb k) k.val 16 (k0_off3_eq k) j h0 (by omega)⟩
    · exact ⟨zeroPiece (k0_off4 k) (k0_off4_inb k), by simp only [zeroPieces, List.mem_cons, true_or, or_true], mem_row _ (k0_off4_inb k) k.val 32 (k0_off4_eq k) j h0 (by omega)⟩
    · exact ⟨zeroPiece (k0_off5 k) (k0_off5_inb k), by simp only [zeroPieces, List.mem_cons, true_or, or_true], mem_row _ (k0_off5_inb k) k.val 48 (k0_off5_eq k) j h0 (by omega)⟩
    · exact ⟨zeroPiece (k0_off6 k) (k0_off6_inb k), by simp only [zeroPieces, List.mem_cons, true_or, or_true], mem_row _ (k0_off6_inb k) k.val 64 (k0_off6_eq k) j h0 (by omega)⟩
    · exact ⟨zeroPiece (k0_off7 k) (k0_off7_inb k), by simp only [zeroPieces, List.mem_cons, true_or, or_true], mem_row _ (k0_off7_inb k) k.val 80 (k0_off7_eq k) j h0 (by omega)⟩
    · exact ⟨zeroPiece (k0_off8 k) (k0_off8_inb k), by simp only [zeroPieces, List.mem_cons, true_or, or_true], mem_row _ (k0_off8_inb k) k.val 96 (k0_off8_eq k) j h0 (by omega)⟩
    · exact ⟨zeroPiece (k0_off9 k) (k0_off9_inb k), by simp only [zeroPieces, List.mem_cons, true_or, or_true], mem_row _ (k0_off9_inb k) k.val 112 (k0_off9_eq k) j h0 (by omega)⟩

end Hist
-- ==== Proof.Tile.lean ====
/- One tile's task, run once at a symbolic pair of SparseCore and subcore with the table's value in the loops'
   invariants: the slab fetched, the table zeroed meanwhile, 512 masked scatter-adds, the table written out. -/
module

public import proofs.«01_k».proof.Proof.Cells

@[expose] public section

noncomputable section

namespace Hist

open Cert.KernelIdeal Cert.KernelIdeal.Gen
open Idealize.ShloMosaic
open Idealize.ShloMosaic.SparseCore (S V)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

-- the kernel's memrefs, spelt as the body table passes them
local notation "xV" => (Memref.whole Cert.KernelIdeal.main_arg0_scv : Memref Cert.KernelIdeal.sig Kind.scVector Space.hbm Cert.KernelIdeal.S16x128x64 EltTy.i32)
local notation "oV" => (Memref.whole Cert.KernelIdeal.main_v0_scv : Memref Cert.KernelIdeal.sig Kind.scVector Space.hbm Cert.KernelIdeal.S16x1024x128 EltTy.f32)
local notation "sH" => (Memref.whole Cert.KernelIdeal.cc0_scratch0 : Memref Cert.KernelIdeal.sig Kind.scVector Space.vmem Cert.KernelIdeal.S128x64 EltTy.i32)
local notation "sC" => (Memref.whole Cert.KernelIdeal.cc0_scratch1 : Memref Cert.KernelIdeal.sig Kind.scVector Space.vmem Cert.KernelIdeal.S512x128 EltTy.f32)

variable (m : (ℓ : Loc nD τ sig) → Buf (Elt F) ℓ)

section Tile

variable (d : Dev nD) (L : grid0.Coords)

abbrev cV (L : grid0.Coords) : Fin τ.nSC := (L 0).castLE hcore0
abbrev jV (L : grid0.Coords) : Fin τ.nSub := (L 1).castLE hsub0

/-- The input copy's source is the tile's slab. -/
theorem set_slabM : (slabM L).view.set = slabSet L := by
  show (((xV).view.slice (slabR L)).reshape S128x64 squeezes_S1x128x64_S128x64.numel_eq).set = _
  rw [View.set_reshape, View.set_slice]; exact Finset.map_refl
/-- The output copy's target is the tile's block. -/
theorem set_blkM : (blkM L).view.set = blkSet L := by
  show (((oV).view.slice (blkR L)).reshape S512x128 squeezes_S1x512x128_S512x128.numel_eq).set = _
  rw [View.set_reshape, View.set_slice]; exact Finset.map_refl

/-- A share of a tile's slab, and its block. -/
abbrev xPts (q : PosShare TreeShare) (f : Buf (Elt F) (xLoc d)) : sProp 𝕄 := xLoc d ↦[slabSet L]{q} f
abbrev oPts (f : Buf (Elt F) (oLoc d)) : sProp 𝕄 := oLoc d ↦[blkSet L]{fullShare} f

/-- Owning the input copy's source is owning the tile's slab. -/
theorem pts_slabM (q : PosShare TreeShare) (f : Buf (Elt F) (xLoc d)) :
    ((slabM L).view.loc (V d (cV L) (jV L)) ↦[(slabM L).view.set]{q} f : sProp 𝕄) = xLoc d ↦[slabSet L]{q} f := by
  rw [set_slabM]
/-- Owning the output copy's target is owning the tile's block. -/
theorem pts_blkM (f : Buf (Elt F) (oLoc d)) :
    ((blkM L).view.loc (V d (cV L) (jV L)) ↦[(blkM L).view.set]{fullShare} f : sProp 𝕄) = oLoc d ↦[blkSet L]{fullShare} f := by
  rw [set_blkM]

abbrev inCell (d : Dev nD) (c : Fin τ.nSC) (i : Fin τ.nSub) : GSem nD τ sig := (V d c i, .dma cc0_scratch2.sem)
abbrev outCell (d : Dev nD) (c : Fin τ.nSC) (i : Fin τ.nSub) : GSem nD τ sig := (V d c i, .dma cc0_scoped0.sem)

/-- The tile's two transfer semaphores are among its own: they are they, at zero, and the rest. -/
theorem ownSems0_V :
    (ownSems0 (V d (cV L) (jV L)) : sProp 𝕄)
      = iprop(semVal (inCell d (cV L) (jV L)) 0 ∗ semVal (outCell d (cV L) (jV L)) 0
          ∗ bigSep (((ownCells (V d (cV L) (jV L))).erase (inCell d (cV L) (jV L))).erase (outCell d (cV L) (jV L))) fun g => semVal g 0) := by
  unfold SparseCore.Cfg.ownSems0
  rw [SparseCore.bigSep_erase' ((mem_ownCells (g := inCell d (cV L) (jV L))).mpr ⟨rfl, by
      show (SemLoc.dma cc0_scratch2.sem : SemLoc sig).isScoped .scVector = true; decide⟩),
    SparseCore.bigSep_erase' (Finset.mem_erase.mpr ⟨by simp [inCell, outCell]; decide, (mem_ownCells (g := outCell d (cV L) (jV L))).mpr ⟨rfl, by
      show (SemLoc.dma cc0_scoped0.sem : SemLoc sig).isScoped .scVector = true; decide⟩⟩)]

/-- The two scratch buffers are among the tile's own: they are they, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
                ((Proc.scVector (cV L) (jV L)).devRef cc0_scratch1))
              fun b => iprop(∃ f, ((d, b) : Loc nD τ sig) ↦{fullShare} f)) := by
  unfold SparseCore.Cfg.ownBufs
  rw [SparseCore.bigSep_erase' (SparseCore.Cfg.mem_ownRefs_of_owner (p := Proc.scVector (cV L) (jV L)) (b := (Proc.scVector (cV L) (jV L)).devRef cc0_scratch0) rfl),
    SparseCore.bigSep_erase' (Finset.mem_erase.mpr ⟨by simp, SparseCore.Cfg.mem_ownRefs_of_owner (p := Proc.scVector (cV L) (jV L))
      (b := (Proc.scVector (cV L) (jV L)).devRef cc0_scratch1) rfl⟩)]

variable [FloatOps F]

/-- The zeroing loop's invariant: the rows before the trip's are zero. -/
def inv₁ (k : Nat) (_ : BitVec 32) : sProp 𝕄 :=
  iprop(∃ f : Vec F S512x128 .f32, ⌜∀ j : S512x128.Idx, (j 0).val < k → f j = zero⌝ ∗ ((sC).view.loc (V d (cV L) (jV L)) ↦{fullShare} f : sProp 𝕄))

/-- The counting loop's invariant: the slab as fetched, the table after `k` trips. -/
def inv₂ (h : Vec F S128x64 .i32) (k : Nat) (_ : BitVec 32) : sProp 𝕄 :=
  iprop(((sH).view.loc (V d (cV L) (jV L)) ↦{fullShare} h : sProp 𝕄) ∗ ((sC).view.loc (V d (cV L) (jV L)) ↦{fullShare} (table h (L 0) k : Vec F S512x128 .f32)))

omit [FloatOps F] in
/-- The table's memory, as a scatter addresses it. -/
theorem pts_sC_whole (f : Buf (Elt F) ((V d (cV L) (jV L)).loc cc0_scratch1)) :
    (((sC).access (.whole S512x128)).loc (V d (cV L) (jV L)) ↦[((sC).access (.whole S512x128)).set]{fullShare} f : sProp 𝕄)
      = ((sC).view.loc (V d (cV L) (jV L)) ↦{fullShare} f) := by
  rw [show ((sC).access (.whole S512x128)).set = Finset.univ from Memref.set_access_whole cc0_scratch1]

/-- **One trip of the counting loop**: the gather's checks hold, and the masked scatter-add takes the table one trip on. -/
theorem count_trip (h : Vec F S128x64 .i32) (c : Fin 2) (k : Fin k0_t2_loop.trips) (acc : BitVec 32) :
    iprop(((sH).view.loc (V d (cV L) (jV L)) ↦{fullShare} h : sProp 𝕄) ∗ ((sC).view.loc (V d (cV L) (jV L)) ↦{fullShare} (table h c k.val : Vec F S512x128 .f32)))
      ⊢ wp frame (wpE (defs₀ (F := F)) 𝒱₀ (V d (cV L) (jV L)) none) Set.univ
          (k0_t2_body L xV (Memref.isWhole_whole _) oV (Memref.isWhole_whole _) sH (Memref.isWhole_whole _) sC (Memref.isWhole_whole _)
            cc0_scratch2 cc0_scoped0 (baseWord c) k acc)
          fun _ => iprop(((sH).view.loc (V d (cV L) (jV L)) ↦{fullShare} h : sProp 𝕄)
            ∗ ((sC).view.loc (V d (cV L) (jV L)) ↦{fullShare} (table h c (k.val + 1) : Vec F S512x128 .f32))) := by
  unfold k0_t2_body
  iintro ⟨Hh, Hc⟩
  simp only [Prog.lift, Prog.bind_op, Prog.bind_ret, Prog.pure_eq_ret]
  iapply (wp_assume 𝒱₀ (V d (cV L) (jV L)) none Set.univ (chk1 k))
  iapply (SparseCore.wp_vectorLoadIdx 𝒱₀ (V d (cV L) (jV L)) none Set.univ (base := sH) (S := Finset.univ) (q := fullShare)
    (idxs := ![k0_pay2 k, broadcast S16 (rowWord k)]) (f := h) (Finset.subset_univ _)) $$ Hh; iintro Hh
  have hg : loadIdx (((sH).access (.whole cc0_scratch0.ty.shape)).read (Elt F) h) ![k0_pay2 k, broadcast S16 (rowWord k)] (k0_idx1_inb _ _ (chk1 k))
      = gathered h k := by rw [Memref.read_access_whole]; rfl
  rw [hg]
  iapply (wp_assume 𝒱₀ (V d (cV L) (jV L)) none Set.univ (chk2 c (gathered h k) k))
  ihave Hc' := (Entails.of_eq (pts_sC_whole (F := F) d L _).symm) $$ Hc
  iapply (SparseCore.wp_vectorStoreIdx 𝒱₀ (V d (cV L) (jV L)) none Set.univ (base := sC)) $$ Hc'; iintro Hc'
  rw [Memref.read_access_whole, Memref.write_access_whole_univ, table_succ]
  ihave Hc := (Entails.of_eq (pts_sC_whole (F := F) d L _)) $$ Hc'
  sl_step
  isplitl [Hh] <;> iassumption

/-- The task on vector subcore `(L 0, L 1)` of device `d`. -/
theorem tile_body (hF : (K (F := F)).Facts) (q : PosShare TreeShare) (O : CellTallies nD τ sig (HIx 1)) (W : Waits sig (HIx 1)) (hO : ∀ g, O g none = 0) :
    iprop(levAts (K (F := F)).L (K (F := F)).lev ∗ emp
        ∗ (xPts d L q (m (xLoc d)) ∗ oPts d L (m (oLoc d)))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__hist_body L xV (Memref.isWhole_whole _) oV (Memref.isWhole_whole _) sH (Memref.isWhole_whole _) sC (Memref.isWhole_whole _)
            cc0_scratch2 cc0_scoped0)
          fun _ => iprop((xPts d L q (m (xLoc d)) ∗ oPts d L (counts (F := F) (m (xLoc d))))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__hist_body_eq_skeleton, k0_part1_eq_skeleton]; unfold cc0__hist_body_skel
  simp only [k0_part1_eq_skeleton]; unfold k0_part1_skel
  rw [(K (F := F)).scopedBufs_V hF d (cV L) (jV L), SparseCore.Cfg.scopedSems0_V (Val := Elt F) d (cV L) (jV L), ownSems0_V, ownBufs_V]
  iintro ⟨#Hlv, -, ⟨Hx, Ho⟩, ⟨⟨%fh, Hh⟩, ⟨%fc, Hc⟩, Hbufs⟩, ⟨HsemI, HsemO, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (pts_slabM (F := F) d L q _).symm) $$ Hx
  ihave Ho' := (Entails.of_eq (pts_blkM (F := F) d L _).symm) $$ Ho
  ihave Hh' := (show ((V d (cV L) (jV L)).loc cc0_scratch0 ↦{fullShare} fh : sProp 𝕄) ⊢ ((sH).view.loc (V d (cV L) (jV L)) ↦{fullShare} fh) from .rfl) $$ Hh
  ihave Hc' := (show ((V d (cV L) (jV L)).loc cc0_scratch1 ↦{fullShare} fc : sProp 𝕄) ⊢ ((sC).view.loc (V d (cV L) (jV L)) ↦{fullShare} fc) from .rfl) $$ Hc
  sl_exec
  have hbase : tile_body.sl.v29 L = baseWord (L 0) := (by decide +kernel : ∀ L : grid0.Coords, tile_body.sl.v29 L = baseWord (L 0)) L
  sl_for (inv₁ (F := F) d L) $$ [Hc']
  case region =>
    intro k _
    unfold inv₁
    iintro ⟨%f, %hf, Hc⟩
    sl_exec
    sl_step
    iexists _
    isplitr
    rotate_left
    · iexact Hc
    ipureintro
    intro j hj
    exact zero_trip k f hf j hj
  · unfold inv₁
    iexists fc
    isplitr
    · ipureintro; intro j hj; exact absurd hj (Nat.not_lt_zero _)
    · iexact Hc'
  iintro %_ HI
  unfold inv₁
  icases HI with ⟨%f, %hf, Hc⟩
  have hz : f = table (slab (m (xLoc d)) L) (L 0) 0 :=
    (funext fun j => hf j ((show (j 0).val < 512 from (j 0).isLt).trans_eq trips1.symm)).trans (table_zero _ _).symm
  sl_exec
  rw [hbase]
  have hh : View.write (Elt F) (sH).view fh (tile_body.sl.dma0 m d L) Finset.univ = slab (m (xLoc d)) L := View.write_whole_univ _ _ _
  rw [hh, hz]
  sl_for (inv₂ (F := F) d L (slab (m (xLoc d)) L)) $$ [Hh' Hc]
  case region =>
    exact fun k acc => count_trip d L (slab (m (xLoc d)) L) (L 0) k acc
  · unfold inv₂
    isplitl [Hh'] <;> iassumption
  iintro %_ HI
  unfold inv₂
  icases HI with ⟨Hh, Hc⟩
  sl_exec
  sl_step
  have hT : tile_body.sl.dma0_1 m d L = table (slab (m (xLoc d)) L) (L 0) 512 :=
    (show tile_body.sl.dma0_1 m d L = table (slab (m (xLoc d)) L) (L 0) k0_t2_loop.trips from rfl).trans (congrArg (table (slab (m (xLoc d)) L) (L 0)) trips2)
  rw [hT]
  ihave Hx := (Entails.of_eq (pts_slabM (F := F) d L q _)) $$ Hx'
  ihave Ho := (Entails.of_eq ((pts_blkM (F := F) d L _).trans (pointsTo_congr (written L (m (xLoc d)) (m (oLoc d)))))) $$ Ho'
  isplitl [Hx Ho]
  · isplitl [Hx] <;> iassumption
  isplitl [Hh Hc Hbufs]
  · isplitl [Hh]
    · iexists _; iexact Hh
    isplitl [Hc]
    · iexists _; iexact Hc
    iexact Hbufs
  isplitl [HsemI HsemO Hsems]
  · isplitl [HsemI]
    · iexact HsemI
    isplitl [HsemO]
    · iexact HsemO
    iexact Hsems
  iexists _
  isplitr
  rotate_left
  · iexact HO
  ipureintro
  intro p hp
  simp only [Finset.mem_insert] at hp
  rcases hp with rfl | rfl | hp
  · exact .inr rfl
  · exact .inr rfl
  · exact .inl hp

end Tile

end Hist
-- ==== Proof.Call.lean ====
/- The SparseCore call, as the launch theorem asks for it: what each SparseCore and each tile is handed and hands back,
   the tiles' obligation, and how the two arrays split over the cores and the tiles and join again. Both cores read all
   the hashes (half a share each); a core writes its half of the classes, a tile its batch's. -/
module

public import proofs.«01_k».proof.Proof.Tile
public import Idealize.ShloMosaic.Lib.SparseCore.Stream

@[expose] public section

noncomputable section

namespace Hist

open Cert.KernelIdeal Cert.KernelIdeal.Gen
open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ)

/-! ## What is handed over -/

/-- A SparseCore's share of the hashes. -/
abbrev xq (c : Fin 2) : PosShare TreeShare := pieceOf fullShare 2 (by decide) c

/-- A SparseCore's half of the counts' array: its sixteen tiles' blocks. -/
def halfSet (c : Fin 2) : Finset S16x1024x128.Idx := Finset.univ.biUnion fun w : Fin 16 => blkSet (coordsV c w)

/-- A place is in a SparseCore's half when its class is in that half of the classes. -/
theorem mem_halfSet (c : Fin 2) (j : S16x1024x128.Idx) : j ∈ halfSet c ↔ (j 1).val / 512 = c.val := by
  unfold halfSet
  rw [Finset.mem_biUnion]
  constructor
  · rintro ⟨w, -, h⟩
    exact ((mem_blkSet _ j).mp h).2
  · intro h
    exact ⟨j 0, Finset.mem_univ _, (mem_blkSet (coordsV c (j 0)) j).mpr ⟨rfl, h⟩⟩

abbrev xAll (d : Dev nD) (f : Buf (Elt F) (xLoc d)) : sProp 𝕄 := xLoc d ↦{fullShare} f
abbrev oAll (d : Dev nD) (f : Buf (Elt F) (oLoc d)) : sProp 𝕄 := oLoc d ↦{fullShare} f
/-- A SparseCore's: its share of the hashes, and its half of the counts' array. -/
abbrev xCore (d : Dev nD) (c : Fin 2) (f : Buf (Elt F) (xLoc d)) : sProp 𝕄 := xLoc d ↦{xq c} f
abbrev oCore (d : Dev nD) (c : Fin 2) (f : Buf (Elt F) (oLoc d)) : sProp 𝕄 := oLoc d ↦[halfSet c]{fullShare} f

/-- The hashes split into the two SparseCores' shares. -/
theorem xAll_eq (d : Dev nD) (f : Buf (Elt F) (xLoc d)) : (xAll d f : sProp 𝕄) = bigSep Finset.univ fun c : Fin 2 => xCore d c f :=
  pointsTo_piecesOf Finset.univ f (by decide) fullShare

/-- The two halves are the whole of the counts' array. -/
theorem half_cover : (Finset.univ : Finset (Fin 2)).biUnion halfSet = Finset.univ := by
  refine Finset.eq_univ_iff_forall.mpr fun j => ?_
  have hj : (j 1).val < 1024 := (j 1).isLt
  exact Finset.mem_biUnion.mpr ⟨⟨(j 1).val / 512, by omega⟩, Finset.mem_univ _, (mem_halfSet _ j).mpr rfl⟩

/-- The two halves do not meet. -/
theorem half_disjoint : ∀ c ∈ (Finset.univ : Finset (Fin 2)), ∀ c' ∈ (Finset.univ : Finset (Fin 2)), c ≠ c' → Disjoint (halfSet c) (halfSet c') :=
  fun c _ c' _ h => Finset.disjoint_left.mpr fun j hj hj' => h (Fin.ext (((mem_halfSet c j).mp hj).symm.trans ((mem_halfSet c' j).mp hj')))

/-- A SparseCore's sixteen slabs are all of the hashes. -/
theorem slab_cover (c : Fin 2) : (Finset.univ : Finset (Fin 16)).biUnion (fun w => slabSet (coordsV c w)) = Finset.univ :=
  Finset.eq_univ_iff_forall.mpr fun j => Finset.mem_biUnion.mpr ⟨j 0, Finset.mem_univ _, (mem_slabSet (coordsV c (j 0)) j).mpr rfl⟩

/-- A SparseCore's slabs do not meet. -/
theorem slab_disjoint (c : Fin 2) : ∀ w ∈ (Finset.univ : Finset (Fin 16)), ∀ w' ∈ (Finset.univ : Finset (Fin 16)), w ≠ w' →
    Disjoint (slabSet (coordsV c w)) (slabSet (coordsV c w')) :=
  fun w _ w' _ h => Finset.disjoint_left.mpr fun j hj hj' =>
    h (Fin.ext (((mem_slabSet (coordsV c w) j).mp hj).symm.trans ((mem_slabSet (coordsV c w') j).mp hj')))

/-- A SparseCore's blocks do not meet. -/
theorem blk_disjoint (c : Fin 2) : ∀ w ∈ (Finset.univ : Finset (Fin 16)), ∀ w' ∈ (Finset.univ : Finset (Fin 16)), w ≠ w' →
    Disjoint (blkSet (coordsV c w)) (blkSet (coordsV c w')) :=
  fun w _ w' _ h => Finset.disjoint_left.mpr fun j hj hj' =>
    h (Fin.ext (((mem_blkSet (coordsV c w) j).mp hj).1.symm.trans ((mem_blkSet (coordsV c w') j).mp hj').1))

/-- The counts' array splits into the two SparseCores' halves. -/
theorem oAll_eq (d : Dev nD) (f : Buf (Elt F) (oLoc d)) : (oAll d f : sProp 𝕄) = bigSep Finset.univ fun c : Fin 2 => oCore d c f := by
  unfold oAll oCore
  rw [← pointsTo_biUnion Finset.univ (ℓ := oLoc d) halfSet half_disjoint, half_cover]; try rfl

/-- A SparseCore's share of the hashes splits into its tiles' slabs. -/
theorem xCore_eq (d : Dev nD) (c : Fin 2) (f : Buf (Elt F) (xLoc d)) :
    (xCore d c f : sProp 𝕄) = bigSep Finset.univ fun w : Fin 16 => xPts d (coordsV c w) (xq c) f := by
  unfold xCore xPts
  rw [← pointsTo_biUnion Finset.univ (ℓ := xLoc d) (fun w => slabSet (coordsV c w)) (slab_disjoint c), slab_cover]; try rfl

/-- A SparseCore's half splits into its tiles' blocks. -/
theorem oCore_eq (d : Dev nD) (c : Fin 2) (f : Buf (Elt F) (oLoc d)) :
    (oCore d c f : sProp 𝕄) = bigSep Finset.univ fun w : Fin 16 => oPts d (coordsV c w) f := by
  unfold oCore halfSet oPts
  rw [← pointsTo_biUnion Finset.univ (ℓ := oLoc d) (fun w => blkSet (coordsV c w)) (blk_disjoint c)]; try rfl

/-- The call runs on two SparseCores. -/
theorem nCore_zero : (K (F := F)).nCore 0 = 2 := rfl
/-- The call runs on sixteen tiles of each. -/
theorem nSub_zero : (K (F := F)).nSub 0 = 16 := rfl

variable [FloatOps F]

/-- What the handshakes carry: to a SparseCore and its tiles their parts at the launch's contents, back the same with the
    counts in place. -/
def P : (K (F := F)).Pay (nD := nD) (Val := Elt F) (Name := ℕ) (U := UU) where
  st := fun q d c => match q with | 0 => iprop(xCore d (Fin.cast nCore_zero c) (m (xLoc d)) ∗ oCore d (Fin.cast nCore_zero c) (m (oLoc d)))
  dn := fun q d c => match q with | 0 => iprop(xCore d (Fin.cast nCore_zero c) (m (xLoc d)) ∗ oCore d (Fin.cast nCore_zero c) (counts (m (xLoc d))))
  go := fun q d c i => match q with
    | 0 => iprop(xPts d (coordsV (Fin.cast nCore_zero c) (Fin.cast nSub_zero i)) (xq (Fin.cast nCore_zero c)) (m (xLoc d))
        ∗ oPts d (coordsV (Fin.cast nCore_zero c) (Fin.cast nSub_zero i)) (m (oLoc d)))
  td := fun q d c i => match q with
    | 0 => iprop(xPts d (coordsV (Fin.cast nCore_zero c) (Fin.cast nSub_zero i)) (xq (Fin.cast nCore_zero c)) (m (xLoc d))
        ∗ oPts d (coordsV (Fin.cast nCore_zero c) (Fin.cast nSub_zero i)) (counts (m (xLoc d))))
  x := fun _ _ => iprop(emp)

instance P_storable : (P (F := F) m).IsStorable where
  st q d c := match q with | 0 => (inferInstance : BI.Storable (upEmb : UEmb _ 𝕄) iprop(xCore d (Fin.cast nCore_zero c) (m (xLoc d)) ∗ oCore d (Fin.cast nCore_zero c) (m (oLoc d))))
  dn q d c := match q with | 0 => (inferInstance : BI.Storable (upEmb : UEmb _ 𝕄) iprop(xCore d (Fin.cast nCore_zero c) (m (xLoc d)) ∗ oCore d (Fin.cast nCore_zero c) (counts (m (xLoc d)))))
  go q d c i := match q with
    | 0 => (inferInstance : BI.Storable (upEmb : UEmb _ 𝕄) iprop(xPts d (coordsV (Fin.cast nCore_zero c) (Fin.cast nSub_zero i)) (xq (Fin.cast nCore_zero c)) (m (xLoc d))
        ∗ oPts d (coordsV (Fin.cast nCore_zero c) (Fin.cast nSub_zero i)) (m (oLoc d))))
  td q d c i := match q with
    | 0 => (inferInstance : BI.Storable (upEmb : UEmb _ 𝕄) iprop(xPts d (coordsV (Fin.cast nCore_zero c) (Fin.cast nSub_zero i)) (xq (Fin.cast nCore_zero c)) (m (xLoc d))
        ∗ oPts d (coordsV (Fin.cast nCore_zero c) (Fin.cast nSub_zero i)) (counts (m (xLoc d)))))

/-! ## The tiles' obligation -/

/-- What a tile runs for the call: the body at the tile's coordinates. -/
theorem defs₀_vector (c : Fin τ.nSC) (s : Fin τ.nSub) :
    defs₀ (F := F) (.scVector c s) 0 ()
      = SparseCore.onTile hcore0 hsub0 (fun c s => cc0__hist_body (coordsV c s) (Memref.whole main_arg0_scv) (Memref.isWhole_whole _) (Memref.whole main_v0_scv) (Memref.isWhole_whole _)
          (Memref.whole cc0_scratch0) (Memref.isWhole_whole _) (Memref.whole cc0_scratch1) (Memref.isWhole_whole _) cc0_scratch2 cc0_scoped0) ⟨⟩ c s := rfl

omit [FloatOps F] in
/-- The launch lets a task wait at its call's own index too. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile of the call runs the task. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact (tile_body m d (coordsV ⟨_, hc.1⟩ ⟨_, hc.2⟩) facts (xq (Fin.cast nCore_zero c)) O W hO).trans (wp_mono frame _ _ fun _ => obl_post)

/-! ## A SparseCore's part over its tiles -/

omit [FloatOps F] in
/-- A product over the call's tiles is one over sixteen. -/
theorem bigSep_tasks (Φ : Fin 16 → sProp 𝕄) :
    (bigSep Finset.univ fun i : Fin ((K (F := F)).nSub 0) => Φ (Fin.cast nSub_zero i)) = bigSep Finset.univ Φ := rfl

/-- What a SparseCore is handed splits among its tiles, and what they return makes up what it returns. -/
theorem vecSplit : (K (F := F)).VecSplit' (P m) 0 := by
  intro d c
  show iprop(xCore d (Fin.cast nCore_zero c) (m (xLoc d)) ∗ oCore d (Fin.cast nCore_zero c) (m (oLoc d))) ⊢ |={Set.univ}=> iprop(
      (bigSep Finset.univ fun w : Fin 16 => iprop(xPts d (coordsV (Fin.cast nCore_zero c) w) (xq (Fin.cast nCore_zero c)) (m (xLoc d))
        ∗ oPts d (coordsV (Fin.cast nCore_zero c) w) (m (oLoc d))))
      ∗ ((bigSep Finset.univ fun w : Fin 16 => iprop(xPts d (coordsV (Fin.cast nCore_zero c) w) (xq (Fin.cast nCore_zero c)) (m (xLoc d))
        ∗ oPts d (coordsV (Fin.cast nCore_zero c) w) (counts (m (xLoc d)))))
          -∗ iprop(xCore d (Fin.cast nCore_zero c) (m (xLoc d)) ∗ oCore d (Fin.cast nCore_zero c) (counts (m (xLoc d))))))
  rw [bigSep_sep', bigSep_sep', ← xCore_eq, ← oCore_eq, ← oCore_eq]
  iintro H; imodintro
  isplitl [H]; · iexact H
  iintro H; iexact H

/-! ## The two SparseCores' parts -/

/-- What the call is handed: the hashes and the counts' array. -/
theorem st0_eq (d : Dev nD) : (bigSep Finset.univ fun c : Fin ((K (F := F)).nCore 0) => (P m).st 0 d c) = iprop(xAll d (m (xLoc d)) ∗ oAll d (m (oLoc d))) := by
  rw [xAll_eq, oAll_eq, ← bigSep_sep']
  rfl

/-- What the call returns: the hashes as they were and the counts. -/
theorem dn0_eq (d : Dev nD) : (bigSep Finset.univ fun c : Fin ((K (F := F)).nCore 0) => (P m).dn 0 d c) = iprop(xAll d (m (xLoc d)) ∗ oAll d (counts (m (xLoc d)))) := by
  rw [xAll_eq, oAll_eq, ← bigSep_sep']
  rfl

end Hist
-- ==== Proof.Emit.lean ====
/- The emitting kernel on the TensorCore: its body run once at a symbolic grid point, whichever of the switch's seven
   branches is taken, with what it stores as a value; the pipeline's proof data; and the region over the arrays. -/
module

public import proofs.«01_k».proof.Proof.Shift
public import proofs.«01_k».proof.Proof.Call
public import proofs.«01_k».proof.Proof.Gen.KernelIdeal.Points
public import Idealize.ShloMosaic.Lib.Pipeline.FrameBody
public import Idealize.ShloMosaic.Lib.Pipeline.RegionsLoop

@[expose] public section

noncomputable section

namespace Hist

open Cert.KernelIdeal Cert.KernelIdeal.Gen
open Idealize.ShloMosaic
open Idealize.ShloMosaic.SparseCore.Cfg (HIx)
open Idealize.ShloMosaic.Pipeline (Dat Cfg Window BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

/-! ## The body -/

/-- A staging buffer held whole on core `d`. -/
abbrev stagePt (d : Dev nD) (M : Memref sig .tc .vmem S1x1024x128 .f32) (f : Buf (Elt F) (M.view.loc (d.tc : Thread nD τ))) : sProp 𝕄 :=
  M.view.loc (d.tc : Thread nD τ) ↦{fullShare} f

omit [FloatOps F] in
/-- A staging buffer that reads as `X` is the whole buffer at some contents that read so. -/
theorem owns_stage (d : Dev nD) (M : Memref sig .tc .vmem S1x1024x128 .f32) (h : M.IsWhole) (X : Vec F S1x1024x128 .f32) :
    (owns (d.tc : Thread nD τ) M fullShare X : sProp 𝕄) = iprop(∃ f, ⌜M.view.read (Elt F) f = X⌝ ∗ stagePt d M f) := by
  unfold owns
  rw [h.set_eq_univ]

/-- The store's offsets are all zero. -/
theorem offs_zero : (![0, 0, 0] : Fin 3 → Nat) = fun _ => 0 := by
  funext a; fin_cases a <;> rfl

set_option maxHeartbeats 1000000 in
/-- One grid point of the emitting kernel, run: the output block ends as the block that the point's second coordinate picks. -/
theorem emit_run (d : Dev nD) (i : grid1.Coords) (M0 : Memref sig .tc .vmem S1x1024x128 .f32) (h0 : M0.IsWhole)
    (M1 : Memref sig .tc .vmem S1x1024x128 .f32) (h1 : M1.IsWhole)
    (f0 : Buf (Elt F) (M0.view.loc (d.tc : Thread nD τ))) (f1 : Buf (Elt F) (M1.view.loc (d.tc : Thread nD τ))) (E : Set ℕ) (Q : PUnit → sProp 𝕄) :
    iprop(stagePt d M0 f0 ∗ stagePt d M1 f1
        ∗ (iprop(stagePt d M0 f0 ∗ ∃ g, ⌜M1.view.read (Elt F) g = shiftBlock (i 1).val (M0.view.read (Elt F) f0)⌝ ∗ stagePt d M1 g) -∗ Q ⟨⟩))
      ⊢ wp frame (wpE (defs₀ (F := F)) Variants.none (d.tc : Thread nD τ) none) E (cc1__emit_body i M0 h0 M1 h1) Q := by
  iintro ⟨H0, H1, Hk⟩
  have hread : ∀ k, (i 1).val = k → ∀ (pay : Vec F S1x1024x128 .f32 → Vec F S1x1024x128 .f32), (∀ X, pay X = shiftBlock k X) →
      M1.view.read (Elt F) (M1.view.writes (Elt F) M1.view.junk [⟨Rect.unit (s := S1x1024x128) ![0, 0, 0] S1x1024x128.size inb_S1x1024x128_S1x1024x128_0_0_0,
        pay (M0.view.readAt (Elt F) (Rect.unit (s := S1x1024x128) ![0, 0, 0] S1x1024x128.size inb_S1x1024x128_S1x1024x128_0_0_0) f0)⟩])
        = shiftBlock (i 1).val (M0.view.read (Elt F) f0) := by
    intro k hk pay hpay
    rw [View.read_writes_junk_eq_canon, View.canon_unit_zero offs_zero, View.readAt_eq_ld, View.ld_unit_zero offs_zero, hpay, hk]
  have hi : (i 1).val < 7 := (i 1).isLt
  by_cases hC1 : k1_cond1 i = 1#1
  · by_cases hC2 : k1_cond2 i = 1#1
    · by_cases hC3 : k1_cond3 i = 1#1
      · by_cases hC4 : k1_cond4 i = 1#1
        · by_cases hC5 : k1_cond5 i = 1#1
          · by_cases hC6 : k1_cond6 i = 1#1
            · have hk : (i 1).val = 6 := by rw [cond1_iff] at hC1; rw [cond2_iff] at hC2; rw [cond3_iff] at hC3; rw [cond4_iff] at hC4; rw [cond5_iff] at hC5; rw [cond6_iff] at hC6; omega
              sl_exec!
              sl_step
              iapply Hk
              isplitl [H0]; · iexact H0
              iexists _; isplitr; swap; (· iexact H1); ipureintro; exact hread 6 hk _ fun X => pay2_eq X
            · have hk : (i 1).val = 5 := by rw [cond1_iff] at hC1; rw [cond2_iff] at hC2; rw [cond3_iff] at hC3; rw [cond4_iff] at hC4; rw [cond5_iff] at hC5; rw [cond6_iff] at hC6; omega
              sl_exec!
              sl_step
              iapply Hk
              isplitl [H0]; · iexact H0
              iexists _; isplitr; swap; (· iexact H1); ipureintro; exact hread 5 hk _ fun X => pay3_eq X
          · have hk : (i 1).val = 4 := by rw [cond1_iff] at hC1; rw [cond2_iff] at hC2; rw [cond3_iff] at hC3; rw [cond4_iff] at hC4; rw [cond5_iff] at hC5; omega
            sl_exec!
            sl_step
            iapply Hk
            isplitl [H0]; · iexact H0
            iexists _; isplitr; swap; (· iexact H1); ipureintro; exact hread 4 hk _ fun X => pay4_eq X
        · have hk : (i 1).val = 3 := by rw [cond1_iff] at hC1; rw [cond2_iff] at hC2; rw [cond3_iff] at hC3; rw [cond4_iff] at hC4; omega
          sl_exec!
          sl_step
          iapply Hk
          isplitl [H0]; · iexact H0
          iexists _; isplitr; swap; (· iexact H1); ipureintro; exact hread 3 hk _ fun X => pay5_eq X
      · have hk : (i 1).val = 2 := by rw [cond1_iff] at hC1; rw [cond2_iff] at hC2; rw [cond3_iff] at hC3; omega
        sl_exec!
        sl_step
        iapply Hk
        isplitl [H0]; · iexact H0
        iexists _; isplitr; swap; (· iexact H1); ipureintro; exact hread 2 hk _ fun X => pay6_eq X
    · have hk : (i 1).val = 1 := by rw [cond1_iff] at hC1; rw [cond2_iff] at hC2; omega
      sl_exec!
      sl_step
      iapply Hk
      isplitl [H0]; · iexact H0
      iexists _; isplitr; swap; (· iexact H1); ipureintro; exact hread 1 hk _ fun X => pay7_eq X
  · have hk : (i 1).val = 0 := by rw [cond1_iff] at hC1; omega
    sl_exec!
    sl_step
    iapply Hk
    isplitl [H0]; · iexact H0
    iexists _; isplitr; swap; (· iexact H1); ipureintro; exact hread 0 hk _ fun X => pay8_eq X

/-! ## The pipeline's proof data -/

/-- What the arrays hold when the pipeline is entered: the counts where the SparseCore call left them, -/
def Vin (m : (ℓ : Loc nD τ sig) → Buf (Elt F) ℓ) (d : Dev nD) : (b : Ref sig .tc) → Buf (Elt F) ((d.tc : Thread nD τ).loc b) :=
  Function.update (fun b => m ((d.tc : Thread nD τ).loc b)) main_v0 (counts (m (xLoc d)))

/-- and when it is left. -/
def Vout (m : (ℓ : Loc nD τ sig) → Buf (Elt F) ℓ) (d : Dev nD) : (b : Ref sig .tc) → Buf (Elt F) ((d.tc : Thread nD τ).loc b) :=
  Function.update (Vin m d) main_v1 (emitted (counts (m (xLoc d))))

variable (m : (ℓ : Loc nD τ sig) → Buf (Elt F) ℓ)

/-- Before the emitting call the counts' array holds the counts. -/
theorem Vin_counts (d : Dev nD) : Vin m d main_v0 = counts (m (xLoc d)) := Function.update_self ..
/-- Every other array is then as at the start. -/
theorem Vin_of_ne (d : Dev nD) (b : Ref sig .tc) (h : b ≠ main_v0) : Vin m d b = m ((d.tc : Thread nD τ).loc b) := Function.update_of_ne h ..
/-- After the emitting call the result's array holds the shifted copies. -/
theorem Vout_result (d : Dev nD) : Vout m d main_v1 = emitted (counts (m (xLoc d))) := Function.update_self ..
/-- Every other array is then as before the call. -/
theorem Vout_of_ne (d : Dev nD) (b : Ref sig .tc) (h : b ≠ main_v1) : Vout m d b = Vin m d b := Function.update_of_ne h ..

/-- The batch's table as the pipeline stages it at point `t`. -/
abbrev staged (d : Dev nD) (t : Fin cfg1.N) : Vec F S1x1024x128 .f32 := ((cfg1.win 0).blk t).view.read (Elt F) (Vin m d main_v0)

/-- The semaphore waits the TensorCore may have recorded after the SparseCore call. -/
def waited (d : Dev nD) : Set (SemLoc sig × HIx 1) := {p | (K (F := F)).lev (d.tc, p.1) p.2 ≤ 8}

/-- The pipeline's proof data: the table stays in its buffer, the result's buffer holds the shifted table. -/
def dat (d : Dev nD) : Dat τ (Elt F) (HIx 1) ℕ UU ℕ cfg1 d where
  A w := Vin m d (Pipeline.arrRef spec1 w)
  after w t := match w with
    | ⟨0, _⟩ => staged m d t
    | ⟨1, _⟩ => shiftBlock (grid1.coords t 1).val (staged m d t)
  Φ _ := BI.emp
  q _ := fullShare
  owed _ := 0
  recorded _ := waited (F := F) d

abbrev adm : (p : Fin 1) → (pcfgs (F := F) p).Adm := fun p => (cfgs p).toPCfg_adm

def pdats : (p : Fin 1) → (d : Dev nD) → Dat τ (Elt F) (HIx 1) ℕ UU ℕ (Pipeline.pin (pcfgs (F := F)) adm p) d
  | ⟨0, _⟩ => fun d => dat m d

/-- The table's buffer holds the batch's table at every point, fetched there or not. -/
theorem before_table (d : Dev nD) (t : Fin cfg1.N) (x : (cfg1.win 0).block.Idx → Elt F (cfg1.win 0).elt) :
    (dat m d).before 0 t x = staged m d t :=
  (dat m d).before_in_eq_fetched 0 rfl (fun _ => rfl) (fun _ _ _ => rfl) (fun _ => rfl) t x

/-- At every grid point the body takes the staged table to its shifted copy. -/
theorem body_obligation (d : Dev nD) : BodyObligation (dat m d) (defs₀ (F := F)) 𝒱₀ none Set.univ := fun t => by
  rw [bigSep_W1, bigSep_W1]
  rw [show cfg1.idle 0 (cfg1.grid.coords t) = false from idle1_eq 0 (grid1.coords t), show cfg1.idle 1 (cfg1.grid.coords t) = false from idle1_eq 1 (grid1.coords t)]
  dsimp only
  have e0 := owns_stage (F := F) d ((cfg1.win 0).stage (cfg1.slots t 0)) (hstage1_0 ((cfg1.slots t 0).cast nbuf1_0))
  have e1 := owns_stage (F := F) d ((cfg1.win 1).stage (cfg1.slots t 1)) (hstage1_1 ((cfg1.slots t 1).cast nbuf1_1))
  rw [show (dat m d).Φ t.castSucc = BI.emp from rfl, show (dat m d).Φ t.succ = BI.emp from rfl,
    show (dat m d).owesAt none t.succ = (dat m d).owesAt none t.castSucc from rfl]
  iintro ⟨HΦ, Howes, ⟨%d0, H0⟩, ⟨%d1, H1⟩⟩
  ihave H0' := (Entails.of_eq (e0 _)) $$ H0
  icases H0' with ⟨%f0, %hf0, H0⟩
  ihave H1' := (Entails.of_eq (e1 _)) $$ H1
  icases H1' with ⟨%f1, -, H1⟩
  have hf0' : ((cfg1.win 0).stage (cfg1.slots t 0)).view.read (Elt F) f0 = staged m d t := hf0.trans (before_table m d t d0)
  iapply (emit_run d (grid1.coords t) (win1_0.stage (cfg1.slots t 0)) (hstage1_0 ((cfg1.slots t 0).cast nbuf1_0))
    (win1_1.stage (cfg1.slots t 1)) (hstage1_1 ((cfg1.slots t 1).cast nbuf1_1)) f0 f1 Set.univ _)
  isplitl [H0]; · iexact H0
  isplitl [H1]; · iexact H1
  iintro ⟨H0, %g, %hg, H1⟩
  isplitl [HΦ]; · iexact HΦ
  isplitl [Howes]; · iexact Howes
  isplitl [H0]
  · iapply (Entails.of_eq (e0 (staged m d t)).symm)
    iexists f0; isplitr; swap; (· iexact H0); ipureintro; exact hf0'
  iapply (Entails.of_eq (e1 (shiftBlock (grid1.coords t 1).val (staged m d t))).symm)
  iexists g; isplitr; swap; (· iexact H1); ipureintro; exact hg.trans (congrArg _ hf0')

/-! ## The result's array at the end -/

/-- A grid point's batch: its number divided by seven. -/
theorem coords_zero : ∀ t : Fin cfg1.N, (grid1.coords t 0).val = t.val / 7 := by decide +kernel
/-- A grid point's shift: its number modulo seven. -/
theorem coords_one : ∀ t : Fin cfg1.N, (grid1.coords t 1).val = t.val % 7 := by decide +kernel

/-- Where a point's block of the counts lies, -/
theorem index_in : ∀ t : Fin cfg1.N, win1_0.index t 0 = t.val / 7 ∧ win1_0.index t 1 = 0 ∧ win1_0.index t 2 = 0 := by decide +kernel
/-- and its block of the result. -/
theorem index_out : ∀ t : Fin cfg1.N, win1_1.index t 0 = t.val / 7 ∧ win1_1.index t 1 = t.val % 7 ∧ win1_1.index t 2 = 0 := by decide +kernel

/-- The staged table, entry by entry. -/
theorem staged_apply (d : Dev nD) (t : Fin cfg1.N) (b : Fin 16) (hb : b.val = t.val / 7) (r : Fin 1024) (s : Fin 128) :
    staged m d t (ValueIdx.ix3 (0 : Fin 1) r s) = counts (m (xLoc d)) (ValueIdx.ix3 b r s) := by
  show Vin m d main_v0 ((win1_0.rect t).idx (ValueIdx.ix3 (0 : Fin 1) r s)) = _
  rw [Vin_counts]
  refine congrArg (counts (m (xLoc d))) (funext fun a => Fin.ext ?_)
  obtain ⟨e0, e1, e2⟩ := index_in t
  match a with
  | ⟨0, _⟩ => show win1_0.index t 0 * 1 + 1 * 0 = b.val; omega
  | ⟨1, _⟩ => show win1_0.index t 1 * 1024 + 1 * r.val = r.val; omega
  | ⟨2, _⟩ => show win1_0.index t 2 * 128 + 1 * s.val = s.val; omega

/-- What a point writes back is its block of the seven stacked copies. -/
theorem flushed_eq (d : Dev nD) (t : Fin cfg1.N) :
    (dat m d).flushed 1 t = ((cfg1.win 1).blk t).view.read (Elt F) (emitted (counts (m (xLoc d)))) := by
  show shiftBlock (grid1.coords t 1).val (staged m d t) = _
  funext y
  show _ = emitted (counts (m (xLoc d))) ((win1_1.rect t).idx y)
  obtain ⟨i0, i1, i2⟩ := index_out t
  have hy0 : (y 0).val < 1 := (y 0).isLt
  have hy1 : (y 1).val < 1024 := (y 1).isLt
  have e0 : ((win1_1.rect t).idx y 0).val = t.val / 7 := by
    show win1_1.index t 0 * 1 + 1 * (y 0).val = _; omega
  have e1 : ((win1_1.rect t).idx y 1).val = t.val % 7 * 1024 + (y 1).val := by
    show win1_1.index t 1 * 1024 + 1 * (y 1).val = _; omega
  have e2 : (win1_1.rect t).idx y 2 = y 2 := by
    apply Fin.ext; show win1_1.index t 2 * 128 + 1 * (y 2).val = _; omega
  unfold shiftBlock emitted
  rw [coords_one, e2, show ((win1_1.rect t).idx y 1).val / 1024 = t.val % 7 by omega]
  refine congrArg (fun f => shifted (t.val % 7) f (y 2)) (funext fun s => ?_)
  refine (staged_apply m d t ((win1_1.rect t).idx y 0) e0 (y 1) s).trans (congrArg (fun r => counts (m (xLoc d)) (ValueIdx.ix3 _ r s)) (Fin.ext ?_))
  show (y 1).val = ((win1_1.rect t).idx y 1).val % 1024
  omega

/-- The indices of a point's block. -/
theorem mem_blk (t : Fin cfg1.N) (i : S16x7168x128.Idx) :
    i ∈ ((cfg1.win 1).blk t).view.set ↔ (i 0).val = t.val / 7 ∧ (i 1).val / 1024 = t.val % 7 := by
  show i ∈ ((View.whole main_v1).slice (win1_1.rect t)).set ↔ _
  rw [View.set_slice_whole, Rect.mem_set_unit]
  obtain ⟨i0, i1, i2⟩ := index_out t
  refine ⟨fun h => ?_, fun h a => ?_⟩
  · have h0 : win1_1.index t 0 * 1 ≤ (i 0).val ∧ (i 0).val < win1_1.index t 0 * 1 + 1 := h 0
    have h1 : win1_1.index t 1 * 1024 ≤ (i 1).val ∧ (i 1).val < win1_1.index t 1 * 1024 + 1024 := h 1
    omega
  · have h2 : (i 2).val < 128 := (i 2).isLt
    match a with
    | ⟨0, _⟩ => show win1_1.index t 0 * 1 ≤ (i 0).val ∧ (i 0).val < win1_1.index t 0 * 1 + 1; omega
    | ⟨1, _⟩ => show win1_1.index t 1 * 1024 ≤ (i 1).val ∧ (i 1).val < win1_1.index t 1 * 1024 + 1024; omega
    | ⟨2, _⟩ => show win1_1.index t 2 * 128 ≤ (i 2).val ∧ (i 2).val < win1_1.index t 2 * 128 + 128; omega

/-- The blocks written back cover the result. -/
theorem cover (i : S16x7168x128.Idx) : ∃ t : Fin cfg1.N, (cfg1.win 1).flush t = true ∧ i ∈ ((cfg1.win 1).blk t).view.set := by
  have h0 : (i 0).val < 16 := (i 0).isLt
  have h1 : (i 1).val < 7168 := (i 1).isLt
  have hN : cfg1.N = 112 := N_1
  refine ⟨⟨7 * (i 0).val + (i 1).val / 1024, by omega⟩, flush1_1 _, ?_⟩
  rw [mem_blk]
  dsimp only
  omega

/-- The result ends as the seven shifted copies of the counts. -/
theorem final_result (d : Dev nD) : (dat m d).arrAt 1 cfg1.N = emitted (counts (m (xLoc d))) :=
  (dat m d).arrAt_eq_of_cover 1 (emitted (counts (m (xLoc d)))) (fun t _ => flushed_eq m d t) cover

/-! ## The region -/

set_option backward.isDefEq.respectTransparency.types false in
/-- The pipelined call as a region: entered with the arrays as the SparseCore call left them, left with the result's
    array at the seven shifted copies. -/
def reg : Pipeline.RegionSeg (pcfgs (F := F)) adm (pdats m) none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation m d).loose
  hwaits := Pipeline.hwaits_of_owed_zero _ _ _ _ _ _ 0 fun _ _ => rfl
  pre d := iprop(unscopedBufs d (Vin m d) ∗ Pipeline.owesWithin d (0 : CellTallies nD τ sig (HIx 1)) (waited (F := F) d))
  post d := iprop(unscopedBufs d (Vout m d) ∗ Pipeline.owesWithin d (0 : CellTallies nD τ sig (HIx 1)) (waited (F := F) d))
  X _ := BI.emp
  Y _ := BI.emp
  Z d := Pipeline.unscopedRest spec1 d (Vin m d)
  hentry d := by
    rw [Pipeline.ownSems0_none]
    have hsplit := Pipeline.arrays_of_unscopedBufs (p := 0) (pcfgs (F := F)) adm (pdats m) launch1.win launch1.arr_whole d
      ((pdats m 0 d).share_full fun _ => rfl) (Vin m d) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · iexists W; isplitr; · ipureintro; exact fun p hp => Or.inl (hW hp)
      iexact HO
    isplitr; · iempintro
    iexact Hrest
  hin d := by
    rw [show (pdats m 0 d).Φ 0 = BI.emp from rfl]
    iintro -; iempintro
  hout d := by
    rw [Pipeline.ownSems0_none, show (Pipeline.scopedRest _ d : sProp 𝕄) = _ from scopedRest1_eq d]
    iintro -
    isplitr; · iempintro
    isplitr; · iempintro
    iempintro
  hexit d := by
    have hjoin := Pipeline.unscopedBufs_of_arrays (p := 0) (pcfgs (F := F)) adm (Ix := HIx 1) (Name := ℕ) (U := UU) (Lvl := ℕ) launch1.win launch1.arr_whole d
      (pdats m) ((pdats m 0 d).share_full fun _ => rfl) (Vin m d) (Vout m d) ((pdats m 0 d).arrAt · cfg1.N)
      (fun w => by
        fin_cases w
        · exact ((pdats m 0 d).arrAt_in 0 rfl _).trans (Vout_of_ne m d main_v0 (by decide)).symm
        · exact (final_result m d).trans (Vout_result m d).symm)
      (fun b hb => Vout_of_ne m d b fun h => hb (h ▸ Finset.mem_image.mpr ⟨1, Finset.mem_univ _, rfl⟩))
    iintro ⟨Ha, ⟨%W, %hW, HO⟩, -, Hrest⟩
    imodintro
    isplitl [Ha Hrest]
    · iapply hjoin; isplitl [Ha] <;> iassumption
    iexists W; isplitr
    · ipureintro
      rintro p hp
      rcases hW hp with h | ⟨w, s, rfl⟩
      · exact h
      · exact Nat.zero_le _
    iexact HO

end Hist
-- ==== Proof.Launched.lean ====
/- The whole launch: the ghost state dealt at the start, `main` on the TensorCore (the SparseCore call, then the
   pipelined call), and the run with the result as a value. -/
module

public import proofs.«01_k».proof.Proof.Emit

@[expose] public section

noncomputable section

namespace Hist

open Cert.KernelIdeal Cert.KernelIdeal.Gen
open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

variable (m : (ℓ : Loc nD τ sig) → Buf (Elt F) ℓ) (ρ : Dev nD → PrngReg)

/-! ## The ghost state at the launch -/

/-- The pipeline's starting element. -/
abbrev pipe₀ : UP := initOf (Pipeline.cells (Pipeline.pin (pcfgs (F := F)) adm) cellOf_inj) (Pipeline.launchToks (Pipeline.pin (pcfgs (F := F)) adm) cellOf_inj)

def u₀ : UU := (initOf (K (F := F)).hsCells (K (F := F)).hsToks, (pipe₀ (F := F), 1))

/-- What a TensorCore is dealt for its pipeline's cells. -/
abbrev G (d : Dev nD) : sProp 𝕄 :=
  iprop(Pipeline.cellsGhost (Pipeline.pin (pcfgs (F := F)) adm) (EP (F := F)) 0 d ∗ Pipeline.toksInit (Pipeline.pin (pcfgs (F := F)) adm) (EP (F := F)) 0 d)

omit [FloatOps F] in
/-- The two ghost states, owned together, are each owned. -/
theorem ownU_halves (a : UH) (b : UP) : (ownU ((a, (b, 1)) : UU) : sProp 𝕄) ⊢ iprop(BI.own (EH (F := F) a) ∗ BI.own (EP (F := F) b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
/-- A product over one region is that region's factor. -/
theorem deal (Φ : Dev nD → Fin 1 → sProp 𝕄) :
    (bigSep Finset.univ fun d : Dev nD => bigSep Finset.univ fun p : Fin 1 => Φ d p) = bigSep Finset.univ fun d : Dev nD => Φ d 0 :=
  bigSep_congr fun d _ => bigSep_univ_of_subsingleton (0 : Fin 1)

/-- The two ghost states, core by core, are what the cores are dealt. -/
theorem deal_G : iprop((bigSep Finset.univ fun d : Dev nD => bigSep Finset.univ fun p : Fin 1 => Pipeline.cellsGhost (Pipeline.pin (pcfgs (F := F)) adm) (EP (F := F)) p d)
      ∗ (bigSep Finset.univ fun d : Dev nD => bigSep Finset.univ fun p : Fin 1 => Pipeline.toksInit (Pipeline.pin (pcfgs (F := F)) adm) (EP (F := F)) p d))
    ⊢ (bigSep Finset.univ (G (F := F)) : sProp 𝕄) := by
  rw [deal (F := F), deal (F := F), ← bigSep_sep']

/-- The ghost state at the start is what the handshakes and the regions are dealt. -/
theorem hu₀ : (ownU (u₀ (F := F)) : sProp 𝕄) ⊢ |={Set.univ}=> iprop(BI.own (EH (F := F) (initOf (K (F := F)).hsCells (K (F := F)).hsToks))
    ∗ bigSep Finset.univ (G (F := F)) ∗ bigSep Finset.univ fun thr : Thread nD τ => bigSep Finset.univ fun q : Fin 1 => (P m).x q thr) := by
  unfold u₀
  iintro Hu
  ihave H := (ownU_halves _ _) $$ Hu
  icases H with ⟨HH, HP⟩
  imod (Pipeline.fund_ghost (Pipeline.pin (pcfgs (F := F)) adm) (EP (F := F)) cellOf_inj) $$ HP with ⟨Hg, Ht⟩
  imodintro
  isplitl [HH]; · iexact HH
  isplitl [Hg Ht]
  · iapply (deal_G (F := F))
    isplitl [Hg] <;> iassumption
  · rw [show (bigSep Finset.univ fun thr : Thread nD τ => bigSep Finset.univ fun q : Fin 1 => (P m).x q thr : sProp 𝕄)
      = bigSep Finset.univ fun _ : Thread nD τ => BI.emp from bigSep_congr fun _ _ => bigSep_univ_of_subsingleton (0 : Fin 1), bigSep_emp_const]
    iempintro

/-! ## The TensorCore's program -/

omit [FloatOps F] in
/-- The TensorCore's arrays: the hashes, the counts and the result. -/
theorem unscopedBufs_eq (d : Dev nD) (W : (b : Ref sig .tc) → Buf (Elt F) ((d.tc : Thread nD τ).loc b)) :
    (unscopedBufs d W : sProp 𝕄) = iprop((xLoc d ↦{fullShare} W main_arg0) ∗ (oLoc d ↦{fullShare} W main_v0) ∗ rLoc d ↦{fullShare} W main_v1) := by
  unfold unscopedBufs
  rw [show (Finset.univ.filter fun b : Ref sig .tc => ¬ b.isScoped) = {main_arg0, main_v0, main_v1} by decide,
    SparseCore.bigSep_insert' (by decide), SparseCore.bigSep_insert' (by decide), bigSep_singleton]

/-- The same three at the end of the emitting call, at their values. -/
theorem unscopedBufs_out (d : Dev nD) : (unscopedBufs d (Vout m d) : sProp 𝕄)
    = iprop((xLoc d ↦{fullShare} m (xLoc d)) ∗ (oLoc d ↦{fullShare} counts (m (xLoc d))) ∗ rLoc d ↦{fullShare} emitted (counts (m (xLoc d)))) := by
  rw [unscopedBufs_eq, Vout_result, Vout_of_ne m d main_arg0 (by decide), Vin_of_ne m d main_arg0 (by decide), Vout_of_ne m d main_v0 (by decide), Vin_counts]

/-- What the TensorCore holds at the end: the hashes as they were, the result at its value. -/
abbrev FIN (d : Dev nD) : sProp 𝕄 :=
  iprop((xLoc d ↦{fullShare} m (xLoc d)) ∗ rLoc d ↦{fullShare} emitted (counts (m (xLoc d))))

/-- What the emitting region asks for. -/
theorem reg_pre (d : Dev nD) : (reg m).pre d
    = iprop(unscopedBufs d (Vin m d) ∗ Pipeline.owesWithin d (0 : CellTallies nD τ sig (HIx 1)) (waited (F := F) d)) := rfl
/-- What the emitting region gives back. -/
theorem reg_post (d : Dev nD) : (reg m).post d
    = iprop(unscopedBufs d (Vout m d) ∗ Pipeline.owesWithin d (0 : CellTallies nD τ sig (HIx 1)) (waited (F := F) d)) := rfl

/-- What the pipelined call is entered with, beside the ghost state, and what follows it. -/
abbrev callPre (κ : GSem nD τ sig → ℕ) (d : Dev nD) (Q : PUnit → sProp 𝕄) : sProp 𝕄 :=
  iprop((K (F := F)).ctx EH (P m) κ ∗ boundary (SparseCore.T d) ∗ unscopedBufs d (Vin m d)
    ∗ Pipeline.owesWithin d (0 : CellTallies nD τ sig (HIx 1)) (waited (F := F) d) ∗ G d
    ∗ (iprop(boundary (SparseCore.T d) ∗ unscopedBufs d (Vout m d) ∗ Pipeline.owesWithin d (0 : CellTallies nD τ sig (HIx 1)) (waited (F := F) d)) -∗ Q ⟨⟩))

/-- The pipelined call under the pipelines' own body table, -/
theorem call_inner (κ : GSem nD τ sig → ℕ) (d : Dev nD) (Q : PUnit → sProp 𝕄) :
    callPre m κ d Q ⊢ wp frame (wpE (D (F := F)) 𝒱 (SparseCore.T d) none) Set.univ
      (.op (.customCall (Pipeline.entry 0) ()) .ret : Prog (TpuEff nD τ sig (Elt F) (ΛP (F := F)) .tc) PUnit) Q := by
  iintro ⟨#Hctx, Hb, Hub, HO, ⟨Hg, Ht⟩, Hk⟩
  ihave Hlev := (SparseCore.Cfg.ctx_levAts κ) $$ Hctx
  iapply (Pipeline.RegionSeg.wp (pcfgs (F := F)) adm (pdats m) none cellOf_inj (EP (F := F)) defs₀ 𝒱₀ (K (F := F)).L (K (F := F)).lev (reg m) d none
    (fun _ h => nomatch h) .ret Q)
  isplitl [Hk]
  · rw [reg_post]
    iintro ⟨Hb, Hub, HO⟩
    rw [wp_ret]; imodintro
    iapply Hk
    isplitl [Hb]; · iexact Hb
    isplitl [Hub] <;> iassumption
  isplitl [Hb]; · iexact Hb
  isplitl [Hub HO]
  · rw [reg_pre]
    isplitl [Hub] <;> iassumption
  isplitl [Hlev]; · iexact Hlev
  isplitl [Hg] <;> iassumption

/-- and as `main` makes it. -/
theorem call_region (κ : GSem nD τ sig → ℕ) (d : Dev nD) (Q : PUnit → sProp 𝕄) :
    callPre m κ d Q ⊢ wp frame (wpE ((K (F := F)).defs (D (F := F))) 𝒱 (SparseCore.T d) none) Set.univ
      (Prog.lift (.customCall (SparseCore.inner (Pipeline.entry 0)) ())) Q :=
  (call_inner m κ d Q).trans ((K (F := F)).wp_liftProg (D (F := F)) 𝒱 (SparseCore.T d) Set.univ none
    (.op (.customCall (Pipeline.entry 0) ()) .ret : Prog (TpuEff nD τ sig (Elt F) (ΛP (F := F)) .tc) PUnit) Q)

/-- The TensorCore's program, run: the counting call, then the emitting call, with the result at its value. -/
theorem hmain (κ : GSem nD τ sig → ℕ) (d : Dev nD) :
    iprop((K (F := F)).ctx EH (P m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho, Hr⟩, Hts, -⟩, HG⟩
  iapply ((K (F := F)).wp_run (D (F := F)) 𝒱 (EH := EH) (P := P m) κ d 0) $$ [Hst Hx Ho Hr Hb Hts HG]
  isplitr; · iexact Hctx
  isplitl [Hst]; · iexact Hst
  isplitl [Hx Ho]
  · rw [st0_eq]
    isplitl [Hx] <;> iassumption
  iintro ⟨Hst, Hdn⟩
  ihave Hdn' := (Entails.of_eq (dn0_eq m d)) $$ Hdn
  icases Hdn' with ⟨Hx, Ho⟩
  unfold SparseCore.Cfg.tcSt
  rw [show (K (F := F)).Otc d ((0 : Fin 1).val + 1) = (0 : CellTallies nD τ sig (HIx 1)) from (K (F := F)).Otc_end d (Nat.le_refl 1),
    show (K (F := F)).Otc d 1 = (0 : CellTallies nD τ sig (HIx 1)) from (K (F := F)).Otc_end d (Nat.le_refl 1)]
  icases Hst with ⟨⟨%W, %hW, HO⟩, Hst⟩
  iapply (call_region m κ d _)
  isplitr; · iexact Hctx
  isplitl [Hb]; · iexact Hb
  isplitl [Hx Ho Hr]
  · rw [unscopedBufs_eq, Vin_counts, Vin_of_ne m d main_arg0 (by decide), Vin_of_ne m d main_v1 (by decide)]
    isplitl [Hx]; · iexact Hx
    isplitl [Ho] <;> iassumption
  isplitl [HO]
  · iexists W; isplitr; · ipureintro; exact fun p hp => hW p hp
    iexact HO
  isplitl [HG]; · iexact HG
  iintro ⟨Hb, Hub, ⟨%W', %hW', HO⟩⟩
  ihave Hub' := (Entails.of_eq (unscopedBufs_out m d)) $$ Hub
  icases Hub' with ⟨Hx, -, Hr⟩
  imodintro
  isplitl [HO Hst]
  · isplitl [HO]
    · iexists W'; isplitr; · ipureintro; exact fun p hp => hW' hp
      iexact HO
    iexact Hst
  isplitl [Hx Hr]
  · isplitl [Hx] <;> iassumption
  isplitl [Hb] <;> iassumption

/-! ## The run -/

/-- What a final state's memory holds. -/
def fq (d : Dev nD) (s' : Phys nD τ sig (Elt F)) : Prop :=
  s'.mem.mem (xLoc d) = m (xLoc d) ∧ s'.mem.mem (rLoc d) = emitted (counts (m (xLoc d)))

/-- What the TensorCore holds at the end is what the final memory holds. -/
theorem hfin (d : Dev nD) (s' : Phys nD τ sig (Elt F)) : iprop(FIN m d ∗ SI s') ⊢ (⌜fq m d s'⌝ : sProp 𝕄) := by
  iintro ⟨⟨Hx, Hr⟩, HSI⟩
  icombine HSI Hx gives %hx
  icombine HSI Hr gives %hr
  ipureintro
  exact ⟨Buf.eq_of_forall_mem_univ hx, Buf.eq_of_forall_mem_univ hr⟩

def QC : PUnit × MemSt nD τ sig (Elt F) → Prop := fun r =>
  (∀ d : Dev nD, r.2.mem (xLoc d) = m (xLoc d) ∧ r.2.mem (rLoc d) = emitted (counts (m (xLoc d)))) ∧ r.2.sem = fun _ => 0

/-- The kernel runs to its end from any memory: the hashes unchanged, the result the seven shifted copies of the counts,
    every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main G (FIN m) (u₀ (F := F)) (sep_elim_left.trans (hu₀ m)) (hmain m ρ) (fq m) (hfin m) (QC m) (fun _ h hz => ⟨h, hz⟩)

end Hist
-- ==== Proof.RefScatter.lean ====
/- The reference's scatter read at one element: the class word that its index arithmetic makes of an id, where one update
   lands, and what a sum of ones is. -/
module

public import proofs.«01_k».proof.Proof.Setup
public import Idealize.ShloMosaic.Lib.Routing.OpsPair
public import Idealize.ShloMosaic.PureOps.Ideal

@[expose] public section

noncomputable section

namespace Hist

open Idealize.ShloMosaic

/-! ## The class word -/

/-- The reference's class of an id: its remainder by 1024, rounded toward zero, moved up by 1024 where its sign is not
    the divisor's. -/
def remWord (h : BitVec 32) : BitVec 32 :=
  Scalar.select
    (IntOp.andi (IntOp.cmpi .ne (IntOp.cmpi .slt (IntOp.remsi .host h 1024#32) 0#32) (IntOp.cmpi .slt 1024#32 0#32))
      (IntOp.cmpi .ne (IntOp.remsi .host h 1024#32) 0#32))
    (IntOp.addi (IntOp.remsi .host h 1024#32) 1024#32) (IntOp.remsi .host h 1024#32)

/-- The remainder with its sign put right is the id's low ten bits. -/
theorem remWord_toNat (h : BitVec 32) : (remWord h).toNat = cls h := by
  have hc : cls h = h.toNat % 2 ^ 10 := by
    show (h &&& 1023#32).toNat = _
    rw [BitVec.toNat_and]
    exact Nat.and_two_pow_sub_one_eq_mod h.toNat 10
  have hr : IntOp.remsi .host h 1024#32 = h.srem 1024#32 := if_neg fun hd => hd.elim (by decide) fun hd => absurd hd.2 (by decide)
  have hi : (h.srem 1024#32).toInt = h.toInt.tmod 1024 := BitVec.toInt_srem h 1024#32
  rw [hc]
  unfold remWord
  rw [hr]
  generalize h.srem 1024#32 = r at hi
  rw [Int.tmod_eq_emod] at hi
  have h1 := BitVec.toInt_eq_toNat_cond h
  have h2 := BitVec.toInt_eq_toNat_cond r
  have h3 := h.isLt
  have h4 := r.isLt
  have hslt : IntOp.cmpi .slt r 0#32 = BitVec.ofBool (decide (r.toInt < 0)) := rfl
  have hlt : IntOp.cmpi .slt 1024#32 0#32 = BitVec.ofBool false := rfl
  have hne : IntOp.cmpi .ne r 0#32 = BitVec.ofBool (decide (r ≠ 0#32)) := WordCmp.cmpi_ne_eq _ _
  have hadd : (IntOp.addi r 1024#32).toNat = (r.toNat + 1024) % 2 ^ 32 := BitVec.toNat_add r 1024#32
  rw [hslt, hlt, hne]
  by_cases hneg : r.toInt < 0
  · have hr0 : r ≠ 0#32 := by rintro rfl; exact absurd hneg (by decide)
    rw [decide_eq_true hneg, decide_eq_true hr0]
    show (IntOp.addi r 1024#32).toNat = _
    rw [hadd]
    split at h1 <;> split at h2 <;> split at hi <;> omega
  · rw [decide_eq_false hneg]
    have : Scalar.select (IntOp.andi (IntOp.cmpi .ne (BitVec.ofBool false) (BitVec.ofBool false)) (BitVec.ofBool (decide (r ≠ 0#32)))) (IntOp.addi r 1024#32) r = r := by
      cases decide (r ≠ 0#32) <;> rfl
    rw [this]
    split at h1 <;> split at h2 <;> split at hi <;> omega

/-! ## Where an update lands -/

/-- An update of a scatter of scalars into a table of rank three, three index words each, lands at `(r, c, e)` exactly
    when its words, read signed, are `r`, `c` and `e`. -/
theorem lands3 {R C E A B N w : ℕ} (d : ScatterDims (⟨3, ![R, C, E]⟩ : Shape) (⟨4, ![A, B, N, 3]⟩ : Shape) (⟨3, ![A, B, N]⟩ : Shape))
    (hiw : d.insertedWindowDims = [0, 1, 2]) (hsd : d.scatterDimsToOperandDims = [0, 1, 2]) (hivd : d.indexVectorDim = 3)
    (idx : IVec (⟨4, ![A, B, N, 3]⟩ : Shape) w) (a : Fin A) (b : Fin B) (n : Fin N) (r : Fin R) (c : Fin C) (e : Fin E) :
    d.resultIdx? (ValueIdx.ix3 a b n) idx = some (ValueIdx.ix3 r c e)
      ↔ (idx (ValueIdx.ix4 a b n (0 : Fin 3))).toInt = r.val ∧ (idx (ValueIdx.ix4 a b n (1 : Fin 3))).toInt = c.val ∧ (idx (ValueIdx.ix4 a b n (2 : Fin 3))).toInt = e.val := by
  have hm : ∀ q : Fin 3, q ∈ d.scatterDimsToOperandDims := fun q => by rw [hsd]; fin_cases q <;> simp
  have hkept : d.sKept = [] := by
    show (⟨3, ![R, C, E]⟩ : Shape).kept d.insertedWindowDims = []
    rw [hiw]
    rfl
  have huw : d.updateWindowDims = [] := List.eq_nil_of_length_eq_zero (by rw [d.window_length, hkept]; rfl)
  have hwin : ∀ q : Fin 3, d.window (ValueIdx.ix3 a b n) q = 0 := fun q => by
    unfold ScatterDims.window
    exact dif_neg (by rw [hkept]; exact List.not_mem_nil)
  have hk : d.siKept = [0, 1, 2] := by
    show (List.finRange 4).filter (fun x => decide (x.val ≠ d.indexVectorDim)) = _
    rw [hivd]
    rfl
  have hu : d.uScatter = [0, 1, 2] := by
    show (⟨3, ![A, B, N]⟩ : Shape).kept d.updateWindowDims = _
    rw [huw]
    rfl
  have hget : ∀ (l : List (Fin 3)) (i : ℕ) (h : i < l.length) (q : Fin 3), l = [0, 1, 2] → i = q.val → l[i]'h = q := by
    intro l i h q hl hi
    subst hl
    subst hi
    fin_cases q <;> rfl
  have hsi : ∀ q : Fin 3, d.siIdx (ValueIdx.ix3 a b n) ⟨d.scatterDimsToOperandDims.idxOf q, List.idxOf_lt_length_iff.2 (hm q)⟩ = ValueIdx.ix4 a b n q := fun q => by
    funext z
    apply Fin.ext
    match z with
    | ⟨0, _⟩ =>
      unfold ScatterDims.siIdx
      rw [dif_neg (by rw [hivd]; exact (by decide : (0 : ℕ) ≠ 3))]
      unfold ScatterDims.siCoord
      simp only [Fin.val_cast]
      rw [hget _ _ _ 0 hu (by rw [hk]; rfl)]
    | ⟨1, _⟩ =>
      unfold ScatterDims.siIdx
      rw [dif_neg (by rw [hivd]; exact (by decide : (1 : ℕ) ≠ 3))]
      unfold ScatterDims.siCoord
      simp only [Fin.val_cast]
      rw [hget _ _ _ 1 hu (by rw [hk]; rfl)]
    | ⟨2, _⟩ =>
      unfold ScatterDims.siIdx
      rw [dif_neg (by rw [hivd]; exact (by decide : (2 : ℕ) ≠ 3))]
      unfold ScatterDims.siCoord
      simp only [Fin.val_cast]
      rw [hget _ _ _ 2 hu (by rw [hk]; rfl)]
    | ⟨3, _⟩ =>
      unfold ScatterDims.siIdx
      rw [dif_pos (by rw [hivd])]
      show List.idxOf q d.scatterDimsToOperandDims = q.val
      rw [hsd]
      fin_cases q <;> rfl
  have hst : ∀ q : Fin 3, d.start (ValueIdx.ix3 a b n) idx q + (d.window (ValueIdx.ix3 a b n) q : ℤ) = (idx (ValueIdx.ix4 a b n q)).toInt := fun q => by
    rw [hwin]
    unfold ScatterDims.start
    rw [dif_pos (hm q), hsi]
    exact Int.add_zero _
  refine (Routing.resultIdx?_eq_some d (ValueIdx.ix3 a b n) idx (ValueIdx.ix3 r c e)).trans ⟨fun h => ⟨(hst 0).symm.trans (h 0), (hst 1).symm.trans (h 1), (hst 2).symm.trans (h 2)⟩, fun h q => (hst q).trans ?_⟩
  match q with
  | ⟨0, _⟩ => exact h.1
  | ⟨1, _⟩ => exact h.2.1
  | ⟨2, _⟩ => exact h.2.2

/-! ## A sum of ones -/

/-- On exact numbers, zero with `n` ones added one at a time is zero plus `n` ones. -/
theorem tally_eq (n : ℕ) : (tally (F := Ideal) n : EReal) = (zero : Ideal .f32) + n • ((one : Ideal .f32) : EReal) := by
  induction n with
  | zero => rw [zero_smul]; exact (add_zero _).symm
  | succ n ih =>
    rw [succ_nsmul, ← add_assoc, ← ih]
    unfold tally
    rw [Function.iterate_succ_apply']
    rfl

end Hist
-- ==== Proof.RefValue.lean ====
/- The reference's result as a value: its index arithmetic, its scatter and its seven shifted copies, each read at an
   index, and the whole equal to the kernel's result on exact numbers. -/
module

public import proofs.«01_k».proof.Proof.RefScatter
public import proofs.«01_k».proof.Proof.Shift
public import proofs.«01_k».proof.Proof.Gen.ReferenceIdeal.Run
public import Idealize.ShloMosaic.Lib.Pointwise.SelectCore
public import Idealize.ShloMosaic.Lib.IdealHost

@[expose] public section

noncomputable section

namespace Hist.Ref

open Cert.ReferenceIdeal Cert.ReferenceIdeal.Gen Cert.ReferenceIdeal.Value
open Idealize.ShloMosaic

variable {F : FTy → Type} [FloatOps F]

/-! ## The reference's steps, named -/

/-- The divisor as the reference makes it: 1024, or one were it zero. -/
def divisor : IVec S_ 32 :=
  select (cmpi .eq (id (constantI S_ 32 1024#32)) (constantI S_ 32 0#32)) (constantI S_ 32 1#32) (id (constantI S_ 32 1024#32))
/-- A word at every id's place. -/
def atIds (x : IVec S_ 32) : IVec S16x128x64 32 := broadcastInDim S16x128x64 ![] bcast_S_S16x128x64 x
/-- The remainders rounded toward zero. -/
def rems (x : IVec S16x128x64 32) : IVec S16x128x64 32 := Host.remsi x (atIds divisor)
/-- The remainders with their sign put right. -/
def mods (x : IVec S16x128x64 32) : IVec S16x128x64 32 :=
  select
    (andi (cmpi .ne (cmpi .slt (rems x) (atIds (constantI S_ 32 0#32))) (broadcastInDim S16x128x64 ![] bcast_S_S16x128x64 (cmpi .slt divisor (constantI S_ 32 0#32))))
      (cmpi .ne (rems x) (atIds (constantI S_ 32 0#32))))
    (addi (rems x) (atIds divisor)) (rems x)
/-- The class index: a negative one would count from the end. -/
def classIdx (x : IVec S16x128x64 32) : IVec S16x128x64 32 :=
  select (cmpi .slt (mods x) (atIds (constantI S_ 32 0#32))) (addi (mods x) (atIds (constantI S_ 32 1024#32))) (mods x)
/-- The batch number along its axis. -/
def batchIota : IVec S16x1x1 32 := broadcastInDim S16x1x1 ![0] bcast_S16_S16x1x1_0 (iotaInDim S16 32 0)
/-- The batch index at every id's place. -/
def batchIdx : IVec S16x128x64 32 :=
  broadcastInDim S16x128x64 ![0, 1, 2] bcast_S16x1x1_S16x128x64_0_1_2
    (select (cmpi .slt batchIota (broadcastInDim S16x1x1 ![] bcast_S_S16x1x1 (constantI S_ 32 0#32)))
      (addi batchIota (broadcastInDim S16x1x1 ![] bcast_S_S16x1x1 (constantI S_ 32 16#32))) batchIota)
/-- The position along its axis. -/
def posIota : IVec S1x128x1 32 := broadcastInDim S1x128x1 ![1] bcast_S128_S1x128x1_1 (iotaInDim S128 32 0)
/-- The position index at every id's place. -/
def posIdx : IVec S16x128x64 32 :=
  broadcastInDim S16x128x64 ![0, 1, 2] bcast_S1x128x1_S16x128x64_0_1_2
    (select (cmpi .slt posIota (broadcastInDim S1x128x1 ![] bcast_S_S1x128x1 (constantI S_ 32 0#32)))
      (addi posIota (broadcastInDim S1x128x1 ![] bcast_S_S1x128x1 (constantI S_ 32 128#32))) posIota)
/-- One index as a last axis of one. -/
def column (x : IVec S16x128x64 32) : IVec S16x128x64x1 32 :=
  broadcastInDim S16x128x64x1 ![0, 1, 2] bcast_S16x128x64_S16x128x64x1_0_1_2 x
/-- The three indices side by side. -/
def triple (x : IVec S16x128x64 32) : IVec S16x128x64x3 32 :=
  concatenate S16x128x64x3 3 [⟨S16x128x64x1, column batchIdx⟩, ⟨S16x128x64x1, column posIdx⟩, ⟨S16x128x64x1, column (classIdx x)⟩]
    concatenates_S16x128x64x1_S16x128x64x1_S16x128x64x1_S16x128x64x3_d3
/-- The reference's counts, position before class. -/
def table (x : IVec S16x128x64 32) : FVec F S16x128x1024 .f32 :=
  Host.scatterAdd scatter_S16x128x1024_S16x128x64x3_S16x128x64_n_012_012_3
    (broadcastInDim S16x128x1024 ![] bcast_S_S16x128x1024 (constant S_ .f32 0x00000000#32)) (triple x)
    (broadcastInDim S16x128x64 ![] bcast_S_S16x128x64 (constant S_ .f32 0x3F800000#32))
/-- The reference's counts, class before position. -/
def hist (x : IVec S16x128x64 32) : FVec F S16x1024x128 .f32 :=
  transpose S16x1024x128 [0, 2, 1] (table x) transposes_S16x128x1024_S16x1024x128_0_2_1
/-- The seven shifted copies one below the other. -/
def copies (f : FVec F S16x1024x128 .f32) : FVec F S16x7168x128 .f32 :=
  fn_main_v48
    (fn_main_v32 (broadcastInDim S16x1024x3 ![] bcast_S_S16x1024x3 (constant S_ .f32 0x00000000#32)) (extractStridedSlice S16x1024x125 ![0, 0, 0] f slices_S16x1024x128_S16x1024x125_0_0_0))
    (fn_main_v35 (broadcastInDim S16x1024x2 ![] bcast_S_S16x1024x2 (constant S_ .f32 0x00000000#32)) (extractStridedSlice S16x1024x126 ![0, 0, 0] f slices_S16x1024x128_S16x1024x126_0_0_0))
    (fn_main_v38 (broadcastInDim S16x1024x1 ![] bcast_S_S16x1024x1 (constant S_ .f32 0x00000000#32)) (extractStridedSlice S16x1024x127 ![0, 0, 0] f slices_S16x1024x128_S16x1024x127_0_0_0))
    f
    (fn_main_v41 (extractStridedSlice S16x1024x127 ![0, 0, 1] f slices_S16x1024x128_S16x1024x127_0_0_1) (broadcastInDim S16x1024x1 ![] bcast_S_S16x1024x1 (constant S_ .f32 0x00000000#32)))
    (fn_main_v44 (extractStridedSlice S16x1024x126 ![0, 0, 2] f slices_S16x1024x128_S16x1024x126_0_0_2) (broadcastInDim S16x1024x2 ![] bcast_S_S16x1024x2 (constant S_ .f32 0x00000000#32)))
    (fn_main_v47 (extractStridedSlice S16x1024x125 ![0, 0, 3] f slices_S16x1024x128_S16x1024x125_0_0_3) (broadcastInDim S16x1024x3 ![] bcast_S_S16x1024x3 (constant S_ .f32 0x00000000#32)))

/-- The reference's result is the copies of its counts. -/
theorem res_eq (m : (ℓ : Loc nD τ sig) → Buf (Elt F) ℓ) (c : Dev nD) :
    res_main_v48 m c = copies (hist (F := F) (m ((c.tc : Thread nD τ).loc main_arg0))) := by
  unfold res_main_v48
  rfl

/-! ## The indices, read -/

/-- An id's class index is its class. -/
theorem classIdx_apply (x : IVec S16x128x64 32) (j : S16x128x64.Idx) : (classIdx x j).toInt = (cls (x j) : ℤ) := by
  have hm : mods x j = remWord (x j) := rfl
  have hn : (remWord (x j)).toNat < 2 ^ 31 := by rw [remWord_toNat]; exact (cls_lt _).trans (by decide)
  have hc : classIdx x j = remWord (x j) := by
    show Scalar.select (IntOp.cmpi .slt (mods x j) 0#32) (IntOp.addi (mods x j) 1024#32) (mods x j) = _
    rw [hm]
    exact Routing.wrap_of_lt _ _ hn
  rw [hc, WordCmp.toInt_eq_toNat_of_lt_half hn, remWord_toNat]

/-- An id's batch index is its batch. -/
theorem batchIdx_apply (b : Fin 16) (s : Fin 128) (n : Fin 64) : (batchIdx (ValueIdx.ix3 b s n)).toInt = (b.val : ℤ) := by
  have hn : b.val < 2 ^ 31 := b.isLt.trans (by decide)
  have hi : batchIota (ValueIdx.ix3 b (0 : Fin 1) (0 : Fin 1)) = BitVec.ofNat 32 b.val :=
    broadcastInDim_apply ![0] bcast_S16_S16x1x1_0 (iotaInDim S16 32 0) _ (ValueIdx.ix1 b) (fun a => match a with | 0 => rfl)
  have hb : batchIdx (ValueIdx.ix3 b s n) = BitVec.ofNat 32 b.val := by
    refine (broadcastInDim_apply ![0, 1, 2] bcast_S16x1x1_S16x128x64_0_1_2 _ _ (ValueIdx.ix3 b (0 : Fin 1) (0 : Fin 1)) (fun a => match a with | 0 => rfl | 1 => rfl | 2 => rfl)).trans ?_
    show Scalar.select (IntOp.cmpi .slt (batchIota (ValueIdx.ix3 b (0 : Fin 1) (0 : Fin 1))) 0#32) _ (batchIota (ValueIdx.ix3 b (0 : Fin 1) (0 : Fin 1))) = _
    rw [hi]
    exact Routing.wrap_of_lt _ _ (by rw [BitVec.toNat_ofNat]; exact (Nat.mod_le _ _).trans_lt hn)
  rw [hb]
  exact WordCmp.toInt_ofNat_of_lt hn

/-- An id's position index is its position. -/
theorem posIdx_apply (b : Fin 16) (s : Fin 128) (n : Fin 64) : (posIdx (ValueIdx.ix3 b s n)).toInt = (s.val : ℤ) := by
  have hn : s.val < 2 ^ 31 := s.isLt.trans (by decide)
  have hi : posIota (ValueIdx.ix3 (0 : Fin 1) s (0 : Fin 1)) = BitVec.ofNat 32 s.val :=
    broadcastInDim_apply ![1] bcast_S128_S1x128x1_1 (iotaInDim S128 32 0) _ (ValueIdx.ix1 s) (fun a => match a with | 0 => rfl)
  have hb : posIdx (ValueIdx.ix3 b s n) = BitVec.ofNat 32 s.val := by
    refine (broadcastInDim_apply ![0, 1, 2] bcast_S1x128x1_S16x128x64_0_1_2 _ _ (ValueIdx.ix3 (0 : Fin 1) s (0 : Fin 1)) (fun a => match a with | 0 => rfl | 1 => rfl | 2 => rfl)).trans ?_
    show Scalar.select (IntOp.cmpi .slt (posIota (ValueIdx.ix3 (0 : Fin 1) s (0 : Fin 1))) 0#32) _ (posIota (ValueIdx.ix3 (0 : Fin 1) s (0 : Fin 1))) = _
    rw [hi]
    exact Routing.wrap_of_lt _ _ (by rw [BitVec.toNat_ofNat]; exact (Nat.mod_le _ _).trans_lt hn)
  rw [hb]
  exact WordCmp.toInt_ofNat_of_lt hn

/-- An index with a last axis of one reads as the index. -/
theorem column_apply (x : IVec S16x128x64 32) (b : Fin 16) (s : Fin 128) (n : Fin 64) :
    column x (ValueIdx.ix4 b s n (0 : Fin 1)) = x (ValueIdx.ix3 b s n) :=
  broadcastInDim_apply ![0, 1, 2] bcast_S16x128x64_S16x128x64x1_0_1_2 x _ (ValueIdx.ix3 b s n) (fun a => match a with | 0 => rfl | 1 => rfl | 2 => rfl)

/-- The three index words of an id: its batch, its position, its class. -/
theorem triple_apply (x : IVec S16x128x64 32) (b : Fin 16) (s : Fin 128) (n : Fin 64) :
    triple x (ValueIdx.ix4 b s n (0 : Fin 3)) = batchIdx (ValueIdx.ix3 b s n)
    ∧ triple x (ValueIdx.ix4 b s n (1 : Fin 3)) = posIdx (ValueIdx.ix3 b s n)
    ∧ triple x (ValueIdx.ix4 b s n (2 : Fin 3)) = classIdx x (ValueIdx.ix3 b s n) := by
  refine ⟨Eq.trans ?_ (column_apply batchIdx b s n), Eq.trans ?_ (column_apply posIdx b s n), Eq.trans ?_ (column_apply (classIdx x) b s n)⟩
  · refine (concatenate_apply S16x128x64x3 3 _ _ _).trans ?_
    refine (concatenateAt_cons _ _ _ _ _ _ _ _).trans ((dif_pos (by show 0 < 1; decide)).trans ?_)
    exact congrArg (column batchIdx) (funext fun a => match a with | 0 => rfl | 1 => rfl | 2 => rfl | 3 => rfl)
  · refine (concatenate_apply S16x128x64x3 3 _ _ _).trans ?_
    refine (concatenateAt_cons _ _ _ _ _ _ _ _).trans ((dif_neg (by show ¬1 < 1; decide)).trans ?_)
    refine (concatenateAt_cons _ _ _ _ _ _ _ _).trans ((dif_pos (by show 1 - 1 < 1; decide)).trans ?_)
    exact congrArg (column posIdx) (funext fun a => match a with | 0 => rfl | 1 => rfl | 2 => rfl | 3 => rfl)
  · refine (concatenate_apply S16x128x64x3 3 _ _ _).trans ?_
    refine (concatenateAt_cons _ _ _ _ _ _ _ _).trans ((dif_neg (by show ¬2 < 1; decide)).trans ?_)
    refine (concatenateAt_cons _ _ _ _ _ _ _ _).trans ((dif_neg (by show ¬2 - 1 < 1; decide)).trans ?_)
    refine (concatenateAt_singleton _ _ _ _ _ _).trans ?_
    exact congrArg (column (classIdx x)) (funext fun a => match a with | 0 => rfl | 1 => rfl | 2 => rfl | 3 => rfl)

/-! ## The counts -/

/-- On exact numbers the reference's table holds at each class the number of ids of that class. -/
theorem table_apply (x : IVec S16x128x64 32) (b : Fin 16) (s : Fin 128) (r : Fin 1024) :
    table (F := Ideal) x (ValueIdx.ix3 b s r) = tally (F := Ideal) (classCount (F := Ideal) x b r.val s) := by
  have hland : ∀ (b' : Fin 16) (s' : Fin 128) (n : Fin 64),
      scatter_S16x128x1024_S16x128x64x3_S16x128x64_n_012_012_3.resultIdx? (ValueIdx.ix3 b' s' n) (triple x) = some (ValueIdx.ix3 b s r)
        ↔ b' = b ∧ s' = s ∧ cls (x (ValueIdx.ix3 b' s' n)) = r.val := fun b' s' n => by
    refine (lands3 scatter_S16x128x1024_S16x128x64x3_S16x128x64_n_012_012_3 rfl rfl rfl (triple x) b' s' n b s r).trans ?_
    obtain ⟨h0, h1, h2⟩ := triple_apply x b' s' n
    rw [h0, h1, h2, batchIdx_apply, posIdx_apply, classIdx_apply, Int.ofNat_inj, Int.ofNat_inj, Int.ofNat_inj, Fin.ext_iff, Fin.ext_iff]
  have hcard : (Finset.univ.filter fun j : S16x128x64.Idx =>
      scatter_S16x128x1024_S16x128x64x3_S16x128x64_n_012_012_3.resultIdx? j (triple x) = some (ValueIdx.ix3 b s r)).card = classCount (F := Ideal) x b r.val s := by
    refine (Finset.card_bij (fun n _ => ValueIdx.ix3 b s n) ?_ ?_ ?_).symm
    · intro n hn
      exact Finset.mem_filter.mpr ⟨Finset.mem_univ _, (hland b s n).mpr ⟨rfl, rfl, (Finset.mem_filter.mp hn).2⟩⟩
    · intro n _ n' _ h
      exact congrFun h 2
    · intro j hj
      have hj' := (Finset.mem_filter.mp hj).2
      rw [ValueIdx.eq_ix3 j] at hj'
      obtain ⟨hb, hs, hc⟩ := (hland (j 0) (j 1) (j 2)).mp hj'
      refine ⟨j 2, Finset.mem_filter.mpr ⟨Finset.mem_univ _, ?_⟩, ?_⟩
      · rw [← hb, ← hs]; exact hc
      · rw [← hb, ← hs]; exact (ValueIdx.eq_ix3 j).symm
  rw [tally_eq, ← hcard]
  exact congrArg (fun t : EReal => (zero : Ideal .f32) + t) (Finset.sum_const ((one : Ideal .f32) : EReal))

/-- So the reference's counts are the kernel's. -/
theorem hist_eq (x : IVec S16x128x64 32) : hist (F := Ideal) x = counts (F := Ideal) x := by
  funext j
  rw [ValueIdx.eq_ix3 j]
  exact (transpose_apply (s := S16x128x1024) (t := S16x1024x128) [0, 2, 1] (table x) transposes_S16x128x1024_S16x1024x128_0_2_1 (ValueIdx.ix3 (j 0) (j 1) (j 2)) (ValueIdx.ix3 (j 0) (j 2) (j 1)) (fun a => match a with | 0 => rfl | 1 => rfl | 2 => rfl)).trans (table_apply x (j 0) (j 2) (j 1))

/-! ## The copies -/

/-- The tail of each row, zeros behind it, is the row moved left. -/
theorem cat_left {w n k : ℕ} (hk : k = w + 3) (x : FVec F S16x1024x128 .f32)
    (hz : S_.BroadcastsInDim (⟨3, ![16, 1024, w]⟩ : Shape) ![])
    (hs : S16x1024x128.Slices ![0, 0, w] (⟨3, ![16, 1024, n]⟩ : Shape))
    (hc : Shape.Concatenates [(⟨3, ![16, 1024, n]⟩ : Shape), ⟨3, ![16, 1024, w]⟩] S16x1024x128 2) (hn : n + w = 128) (b : Fin 16) (r : Fin 1024) (s : Fin 128) :
    concatenate S16x1024x128 2 [⟨⟨3, ![16, 1024, n]⟩, extractStridedSlice ⟨3, ![16, 1024, n]⟩ ![0, 0, w] x hs⟩,
        ⟨⟨3, ![16, 1024, w]⟩, broadcastInDim ⟨3, ![16, 1024, w]⟩ ![] hz (constant (F := F) S_ .f32 0x00000000#32)⟩] hc (ValueIdx.ix3 b r s)
      = shifted k (fun j => x (ValueIdx.ix3 b r j)) s := by
  have hs' := s.isLt
  by_cases h : s.val < n
  · rw [concatenate_pair_apply_left 2 _ _ hc _ rfl (ValueIdx.ix3 b r (⟨s.val, h⟩ : Fin n)) (fun a => match a with | 0 => rfl | 1 => rfl | 2 => rfl),
      extractStridedSlice_apply _ _ _ _ (ValueIdx.ix3 b r (⟨s.val + w, by omega⟩ : Fin 128)) (fun a => match a with
        | 0 => show b.val = 0 + b.val by omega
        | 1 => show r.val = 0 + r.val by omega
        | 2 => show s.val + w = w + s.val by omega)]
    exact (shifted_of_eq (row := fun j => x (ValueIdx.ix3 b r j)) (⟨s.val + w, by omega⟩ : Fin 128) (show s.val + w + 3 = s.val + k by omega)).symm
  · rw [concatenate_pair_apply_right 2 _ _ hc (ValueIdx.ix3 b r s) rfl rfl (ValueIdx.ix3 b r (⟨s.val - n, by omega⟩ : Fin w))
      (fun a ha => match a, ha with | 0, _ => rfl | 1, _ => rfl | 2, ha => absurd rfl ha) (show s.val - n + n = s.val by omega)]
    exact (shifted_of_ge (by omega)).symm

/-- Zeros with the head of each row behind them are the row moved right. -/
theorem cat_right {w n k : ℕ} (hk : k + w = 3) (x : FVec F S16x1024x128 .f32)
    (hz : S_.BroadcastsInDim (⟨3, ![16, 1024, w]⟩ : Shape) ![])
    (hs : S16x1024x128.Slices ![0, 0, 0] (⟨3, ![16, 1024, n]⟩ : Shape))
    (hc : Shape.Concatenates [(⟨3, ![16, 1024, w]⟩ : Shape), ⟨3, ![16, 1024, n]⟩] S16x1024x128 2) (hn : w + n = 128) (b : Fin 16) (r : Fin 1024) (s : Fin 128) :
    concatenate S16x1024x128 2 [⟨⟨3, ![16, 1024, w]⟩, broadcastInDim ⟨3, ![16, 1024, w]⟩ ![] hz (constant (F := F) S_ .f32 0x00000000#32)⟩,
        ⟨⟨3, ![16, 1024, n]⟩, extractStridedSlice ⟨3, ![16, 1024, n]⟩ ![0, 0, 0] x hs⟩] hc (ValueIdx.ix3 b r s)
      = shifted k (fun j => x (ValueIdx.ix3 b r j)) s := by
  have hs' := s.isLt
  by_cases h : s.val < w
  · rw [concatenate_pair_apply_left 2 _ _ hc _ rfl (ValueIdx.ix3 b r (⟨s.val, h⟩ : Fin w)) (fun a => match a with | 0 => rfl | 1 => rfl | 2 => rfl)]
    exact (shifted_of_lt (by omega)).symm
  · rw [concatenate_pair_apply_right 2 _ _ hc (ValueIdx.ix3 b r s) rfl rfl (ValueIdx.ix3 b r (⟨s.val - w, by omega⟩ : Fin n))
      (fun a ha => match a, ha with | 0, _ => rfl | 1, _ => rfl | 2, ha => absurd rfl ha) (show s.val - w + w = s.val by omega),
      extractStridedSlice_apply _ _ _ _ (ValueIdx.ix3 b r (⟨s.val - w, by omega⟩ : Fin 128)) (fun a => match a with
        | 0 => show b.val = 0 + b.val by omega
        | 1 => show r.val = 0 + r.val by omega
        | 2 => show s.val - w = 0 + (s.val - w) by omega)]
    exact (shifted_of_eq (row := fun j => x (ValueIdx.ix3 b r j)) (⟨s.val - w, by omega⟩ : Fin 128) (show s.val - w + 3 = s.val + k by omega)).symm

/-- The copies read at a place: the copy of the place's 1024 rows, at its row there. -/
theorem stack_apply (p : Fin 7 → FVec F S16x1024x128 .f32) (b : Fin 16) (k : Fin 7) (r : Fin 1024) (s : Fin 128) :
    fn_main_v48 (p 0) (p 1) (p 2) (p 3) (p 4) (p 5) (p 6) (ValueIdx.ix3 b (⟨1024 * k.val + r.val, by omega⟩ : Fin 7168) s) = p k (ValueIdx.ix3 b r s) := by
  have hr := r.isLt
  have hidx : ∀ (i : S16x1024x128.Idx) (q : Fin 7), i 0 = b → (i 1).val = r.val → i 2 = s → p q i = p q (ValueIdx.ix3 b r s) := fun i q h0 h1 h2 =>
    congrArg (p q) (funext fun a => match a with | 0 => h0 | 1 => Fin.ext h1 | 2 => h2)
  refine (concatenate_apply S16x7168x128 1 _ _ _).trans ?_
  match k with
  | 0 =>
    refine (concatenateAt_cons _ _ _ _ _ _ _ _).trans ((dif_pos (by show 1024 * 0 + r.val < 1024; omega)).trans ?_)
    exact hidx _ 0 rfl (show 1024 * 0 + r.val = r.val by omega) rfl
  | 1 =>
    refine (concatenateAt_cons _ _ _ _ _ _ _ _).trans ((dif_neg (by show ¬1024 * 1 + r.val < 1024; omega)).trans ?_)
    refine (concatenateAt_cons _ _ _ _ _ _ _ _).trans ((dif_pos (by show 1024 * 1 + r.val - 1024 < 1024; omega)).trans ?_)
    exact hidx _ 1 rfl (show 1024 * 1 + r.val - 1024 = r.val by omega) rfl
  | 2 =>
    refine (concatenateAt_cons _ _ _ _ _ _ _ _).trans ((dif_neg (by show ¬1024 * 2 + r.val < 1024; omega)).trans ?_)
    refine (concatenateAt_cons _ _ _ _ _ _ _ _).trans ((dif_neg (by show ¬1024 * 2 + r.val - 1024 < 1024; omega)).trans ?_)
    refine (concatenateAt_cons _ _ _ _ _ _ _ _).trans ((dif_pos (by show 1024 * 2 + r.val - 1024 - 1024 < 1024; omega)).trans ?_)
    exact hidx _ 2 rfl (show 1024 * 2 + r.val - 1024 - 1024 = r.val by omega) rfl
  | 3 =>
    refine (concatenateAt_cons _ _ _ _ _ _ _ _).trans ((dif_neg (by show ¬1024 * 3 + r.val < 1024; omega)).trans ?_)
    refine (concatenateAt_cons _ _ _ _ _ _ _ _).trans ((dif_neg (by show ¬1024 * 3 + r.val - 1024 < 1024; omega)).trans ?_)
    refine (concatenateAt_cons _ _ _ _ _ _ _ _).trans ((dif_neg (by show ¬1024 * 3 + r.val - 1024 - 1024 < 1024; omega)).trans ?_)
    refine (concatenateAt_cons _ _ _ _ _ _ _ _).trans ((dif_pos (by show 1024 * 3 + r.val - 1024 - 1024 - 1024 < 1024; omega)).trans ?_)
    exact hidx _ 3 rfl (show 1024 * 3 + r.val - 1024 - 1024 - 1024 = r.val by omega) rfl
  | 4 =>
    refine (concatenateAt_cons _ _ _ _ _ _ _ _).trans ((dif_neg (by show ¬1024 * 4 + r.val < 1024; omega)).trans ?_)
    refine (concatenateAt_cons _ _ _ _ _ _ _ _).trans ((dif_neg (by show ¬1024 * 4 + r.val - 1024 < 1024; omega)).trans ?_)
    refine (concatenateAt_cons _ _ _ _ _ _ _ _).trans ((dif_neg (by show ¬1024 * 4 + r.val - 1024 - 1024 < 1024; omega)).trans ?_)
    refine (concatenateAt_cons _ _ _ _ _ _ _ _).trans ((dif_neg (by show ¬1024 * 4 + r.val - 1024 - 1024 - 1024 < 1024; omega)).trans ?_)
    refine (concatenateAt_cons _ _ _ _ _ _ _ _).trans ((dif_pos (by show 1024 * 4 + r.val - 1024 - 1024 - 1024 - 1024 < 1024; omega)).trans ?_)
    exact hidx _ 4 rfl (show 1024 * 4 + r.val - 1024 - 1024 - 1024 - 1024 = r.val by omega) rfl
  | 5 =>
    refine (concatenateAt_cons _ _ _ _ _ _ _ _).trans ((dif_neg (by show ¬1024 * 5 + r.val < 1024; omega)).trans ?_)
    refine (concatenateAt_cons _ _ _ _ _ _ _ _).trans ((dif_neg (by show ¬1024 * 5 + r.val - 1024 < 1024; omega)).trans ?_)
    refine (concatenateAt_cons _ _ _ _ _ _ _ _).trans ((dif_neg (by show ¬1024 * 5 + r.val - 1024 - 1024 < 1024; omega)).trans ?_)
    refine (concatenateAt_cons _ _ _ _ _ _ _ _).trans ((dif_neg (by show ¬1024 * 5 + r.val - 1024 - 1024 - 1024 < 1024; omega)).trans ?_)
    refine (concatenateAt_cons _ _ _ _ _ _ _ _).trans ((dif_neg (by show ¬1024 * 5 + r.val - 1024 - 1024 - 1024 - 1024 < 1024; omega)).trans ?_)
    refine (concatenateAt_cons _ _ _ _ _ _ _ _).trans ((dif_pos (by show 1024 * 5 + r.val - 1024 - 1024 - 1024 - 1024 - 1024 < 1024; omega)).trans ?_)
    exact hidx _ 5 rfl (show 1024 * 5 + r.val - 1024 - 1024 - 1024 - 1024 - 1024 = r.val by omega) rfl
  | 6 =>
    refine (concatenateAt_cons _ _ _ _ _ _ _ _).trans ((dif_neg (by show ¬1024 * 6 + r.val < 1024; omega)).trans ?_)
    refine (concatenateAt_cons _ _ _ _ _ _ _ _).trans ((dif_neg (by show ¬1024 * 6 + r.val - 1024 < 1024; omega)).trans ?_)
    refine (concatenateAt_cons _ _ _ _ _ _ _ _).trans ((dif_neg (by show ¬1024 * 6 + r.val - 1024 - 1024 < 1024; omega)).trans ?_)
    refine (concatenateAt_cons _ _ _ _ _ _ _ _).trans ((dif_neg (by show ¬1024 * 6 + r.val - 1024 - 1024 - 1024 < 1024; omega)).trans ?_)
    refine (concatenateAt_cons _ _ _ _ _ _ _ _).trans ((dif_neg (by show ¬1024 * 6 + r.val - 1024 - 1024 - 1024 - 1024 < 1024; omega)).trans ?_)
    refine (concatenateAt_cons _ _ _ _ _ _ _ _).trans ((dif_neg (by show ¬1024 * 6 + r.val - 1024 - 1024 - 1024 - 1024 - 1024 < 1024; omega)).trans ?_)
    refine (concatenateAt_singleton _ _ _ _ _ _).trans ?_
    exact hidx _ 6 rfl (show 1024 * 6 + r.val - 1024 - 1024 - 1024 - 1024 - 1024 - 1024 = r.val by omega) rfl

/-- The copies of any counts, by the kernel's formula. -/
theorem copies_eq (f : FVec F S16x1024x128 .f32) : copies f = emitted (F := F) f := by
  have hrow : ∀ (b : Fin 16) (k : Fin 7) (r : Fin 1024) (s : Fin 128),
      copies f (ValueIdx.ix3 b (⟨1024 * k.val + r.val, by omega⟩ : Fin 7168) s) = shifted k.val (fun j => f (ValueIdx.ix3 b r j)) s := fun b k r s => by
    refine (stack_apply ![_, _, _, f, _, _, _] b k r s).trans ?_
    match k with
    | 0 => exact cat_right (k := 0) rfl f bcast_S_S16x1024x3 slices_S16x1024x128_S16x1024x125_0_0_0 concatenates_S16x1024x3_S16x1024x125_S16x1024x128_d2 rfl b r s
    | 1 => exact cat_right (k := 1) rfl f bcast_S_S16x1024x2 slices_S16x1024x128_S16x1024x126_0_0_0 concatenates_S16x1024x2_S16x1024x126_S16x1024x128_d2 rfl b r s
    | 2 => exact cat_right (k := 2) rfl f bcast_S_S16x1024x1 slices_S16x1024x128_S16x1024x127_0_0_0 concatenates_S16x1024x1_S16x1024x127_S16x1024x128_d2 rfl b r s
    | 3 => exact (shifted_of_eq (row := fun j => f (ValueIdx.ix3 b r j)) s rfl).symm
    | 4 => exact cat_left (k := 4) rfl f bcast_S_S16x1024x1 slices_S16x1024x128_S16x1024x127_0_0_1 concatenates_S16x1024x127_S16x1024x1_S16x1024x128_d2 rfl b r s
    | 5 => exact cat_left (k := 5) rfl f bcast_S_S16x1024x2 slices_S16x1024x128_S16x1024x126_0_0_2 concatenates_S16x1024x126_S16x1024x2_S16x1024x128_d2 rfl b r s
    | 6 => exact cat_left (k := 6) rfl f bcast_S_S16x1024x3 slices_S16x1024x128_S16x1024x125_0_0_3 concatenates_S16x1024x125_S16x1024x3_S16x1024x128_d2 rfl b r s
  funext j
  have hj : (j 1).val < 7168 := (j 1).isLt
  have hd := Nat.div_add_mod (j 1).val 1024
  have e : j = ValueIdx.ix3 (j 0) (⟨1024 * ((j 1).val / 1024) + (j 1).val % 1024, by omega⟩ : Fin 7168) (j 2) :=
    funext fun a => match a with | 0 => rfl | 1 => Fin.ext hd.symm | 2 => rfl
  exact (congrArg (copies f) e).trans (hrow (j 0) ⟨(j 1).val / 1024, by omega⟩ ⟨(j 1).val % 1024, Nat.mod_lt _ (by decide)⟩ (j 2))

/-- On exact numbers the reference's result is the kernel's formula of the ids. -/
theorem res_value (m : (ℓ : Loc nD τ sig) → Buf (Elt Ideal) ℓ) (c : Dev nD) :
    res_main_v48 m c = emitted (F := Ideal) (counts (F := Ideal) (m ((c.tc : Thread nD τ).loc main_arg0))) :=
  (res_eq m c).trans ((copies_eq _).trans (congrArg _ (hist_eq _)))

end Hist.Ref
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Launched
public import proofs.«01_k».proof.Proof.RefValue
public import Idealize.ShloMosaic.Adequacy
public import Idealize.ShloMosaic.Init

@[expose] public section

noncomputable section

namespace Cert.Proof

open Idealize.ShloMosaic Idealize.SL.Sem

section
variable {F : FTy → Type} [FloatOps F] [Cert.Kernel.Facts] [Cert.KernelIdeal.Facts]

/-- The kernels' bodies are the same program in both printings, processor by processor and label by label. -/
theorem bodies_same : Cert.Kernel.defs₀ (F := F) = Cert.KernelIdeal.defs₀ (F := F) := by
  funext p l a
  match p, l, a with
  | .tc, 0, _ => rfl
  | .tc, 1, _ => rfl
  | .scVector _ _, 0, _ => rfl
  | .scVector _ _, 1, _ => rfl
  | .scScalar _, 0, _ => rfl
  | .scScalar _, 1, _ => rfl

/-- So are the whole body tables. -/
theorem defs_same : Cert.Kernel.defs (F := F) = Cert.KernelIdeal.defs (F := F) :=
  congrArg (fun D => Cert.KernelIdeal.sc.defs (Pipeline.defs Cert.KernelIdeal.pcfgs D)) bodies_same

end

/-- The printed kernel runs, leaves its argument and returns every semaphore to zero: the one run, on bit patterns. -/
theorem frame_kernel : Cert.quiescent_Kernel := fun m ρ _ => by
  rw [defs_same]
  exact (θ_run Cert.KernelIdeal.defs _ _).mono (fun _ h => ⟨fun c => (h.1 c).1, h.2⟩) (Hist.run_main (F := Bits) m ρ)

/-- The idealized kernel likewise: the same run, on exact numbers. -/
theorem frame_ideal : Cert.quiescent_KernelIdeal := fun m ρ _ =>
  (θ_run Cert.KernelIdeal.defs _ _).mono (fun _ h => ⟨fun c => (h.1 c).1, h.2⟩) (Hist.run_main (F := Ideal) m ρ)

/-- The reference runs and leaves its argument; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- On exact numbers, from equal arguments, the kernel and the reference end with the same result: at every batch, shift,
    class and position, the count of the ids of that class at the shifted position, or zero past the row's ends. -/
theorem equal_results : Cert.algebraic_KernelIdeal_ReferenceIdeal := fun m ρ m' ρ' _ hagree =>
  ⟨fun c => Hist.emitted (F := Ideal) (Hist.counts (F := Ideal) (m (Hist.xLoc c))),
    (θ_run Cert.KernelIdeal.defs _ _).mono (fun _ h c => ⟨(h.1 c).2, (h.1 c).1⟩) (Hist.run_main (F := Ideal) m ρ),
    (θ_run Cert.ReferenceIdeal.defs _ _).mono
      (fun _ h c => ⟨(h c).1.trans ((Hist.Ref.res_value m' c).trans (congrArg (fun x => Hist.emitted (F := Ideal) (Hist.counts (F := Ideal) x)) (hagree c))), (h c).2⟩)
      (Cert.ReferenceIdeal.Value.run (F := Ideal) m' ρ')⟩

/-- Every claim. -/
theorem claim : Cert.Claim :=
  ⟨Cert.Kernel.Gen.facts, Cert.KernelIdeal.Gen.facts, Cert.ReferenceIdeal.Gen.facts,
    frame_kernel, frame_ideal, frame_reference, trivial, equal_results⟩

end Cert.Proof

end
